-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S8x192x4096 : Shape := ⟨3, ![8, 192, 4096]⟩
abbrev S8x160x4096 : Shape := ⟨3, ![8, 160, 4096]⟩
abbrev S7 : Shape := ⟨1, ![7]⟩
abbrev S_ : Shape := ⟨0, ![]⟩
abbrev S192x4096 : Shape := ⟨2, ![192, 4096]⟩
abbrev S1x192x4096 : Shape := ⟨3, ![1, 192, 4096]⟩
abbrev S160x4096 : Shape := ⟨2, ![160, 4096]⟩
abbrev S1x160x4096 : Shape := ⟨3, ![1, 160, 4096]⟩
abbrev S192x1024 : Shape := ⟨2, ![192, 1024]⟩
abbrev S160x1024 : Shape := ⟨2, ![160, 1024]⟩

abbrev nBuf : Space → Nat
  | .hbm => 5
  | .vmem => 7
  | .smem => 2
  | _ => 0

abbrev bufTy : (tb : Table) → Fin (tcTables nBuf tb) → BufTy
  | .hbm, ⟨0, _⟩ => ⟨S512x4096, .fp8e4m3⟩
  | .hbm, ⟨1, _⟩ => ⟨S4096x1024, .fp8e4m3⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e4m3⟩
  | .local _ .vmem, ⟨1, _⟩ => ⟨S4096x1024, .fp8e4m3⟩
  | .local _ .vmem, ⟨2, _⟩ => ⟨S4096x1024, .f32⟩
  | .local _ .vmem, ⟨3, _⟩ => ⟨S4096x1024, .fp8e4m3⟩
  | .local _ .vmem, ⟨4, _⟩ => ⟨S8x192x4096, .fp8e4m3⟩
  | .local _ .vmem, ⟨5, _⟩ => ⟨S8x160x4096, .fp8e4m3⟩
  | .local _ .vmem, ⟨6, _⟩ => ⟨S8x160x4096, .fp8e4m3⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v16 : BitVec 32 := Scalar.xori v2 c1_i32_11
  let c1_i32_41 : BitVec 32 := 1#32
  let v42 : BitVec 32 := Scalar.muli v16 c1_i32_41
  let v43 : BitVec 32 := Scalar.addi c0_i32_42 v42
  v43.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_12 : BitVec 32 := 3#32
  let v17 : BitVec 32 := Scalar.xori v2 c3_i32_12
  let c1_i32_50 : BitVec 32 := 1#32
  let v52 : BitVec 32 := Scalar.muli v17 c1_i32_50
  let v53 : BitVec 32 := Scalar.addi c0_i32_51 v52
  v53.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v19 : BitVec 32 := Scalar.xori v2 c4_i32_14
  let c1_i32_60 : BitVec 32 := 1#32
  let v62 : BitVec 32 := Scalar.muli v19 c1_i32_60
  let v63 : BitVec 32 := Scalar.addi c0_i32_61 v62
  v63.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v23 : BitVec 32 := Scalar.xori v2 c3_i32_18
  let c1_i32_74 : BitVec 32 := 1#32
  let v77 : BitVec 32 := Scalar.muli v23 c1_i32_74
  let v78 : BitVec 32 := Scalar.addi c0_i32_75 v77
  v78.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v24 : BitVec 32 := Scalar.xori v2 c4_i32_19
  let c1_i32_84 : BitVec 32 := 1#32
  let v87 : BitVec 32 := Scalar.muli v24 c1_i32_84
  let v88 : BitVec 32 := Scalar.addi c0_i32_85 v87
  v88.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v26 : BitVec 32 := Scalar.xori v2 c1_i32_21
  let c1_i32_94 : BitVec 32 := 1#32
  let v97 : BitVec 32 := Scalar.muli v26 c1_i32_94
  let v98 : BitVec 32 := Scalar.addi c0_i32_95 v97
  v98.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_25 : BitVec 32 := 4#32
  let v30 : BitVec 32 := Scalar.xori v2 c4_i32_25
  let c1_i32_108 : BitVec 32 := 1#32
  let v112 : BitVec 32 := Scalar.muli v30 c1_i32_108
  let v113 : BitVec 32 := Scalar.addi c0_i32_109 v112
  v113.toNat
def k0_dev11 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v31 : BitVec 32 := Scalar.xori v2 c1_i32_26
  let c1_i32_118 : BitVec 32 := 1#32
  let v122 : BitVec 32 := Scalar.muli v31 c1_i32_118
  let v123 : BitVec 32 := Scalar.addi c0_i32_119 v122
  v123.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v33 : BitVec 32 := Scalar.xori v2 c3_i32_28
  let c1_i32_128 : BitVec 32 := 1#32
  let v132 : BitVec 32 := Scalar.muli v33 c1_i32_128
  let v133 : BitVec 32 := Scalar.addi c0_i32_129 v132
  v133.toNat
def k0_off1 (d0 : Dev nD) (c0_i32_138 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.xori v2 c0_i32_138
  let c512_i32 : BitVec 32 := 512#32
  let v154 : BitVec 32 := Scalar.muli v147 c512_i32
  let c0_i32_144 : BitVec 32 := 0#32
  let v155 : BitVec 32 := Scalar.addi v154 c0_i32_144
  let v156 : Index := Scalar.indexCast v155
  let c0_145 : Index := 0#32
  ![v156.toNat, 0]
def k0_off2 (d0 : Dev nD) (c0_i32_146 : BitVec 32) (c192_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v158 : BitVec 32 := Scalar.xori v2 c0_i32_146
  let c512_i32_153 : BitVec 32 := 512#32
  let v165 : BitVec 32 := Scalar.muli v158 c512_i32_153
  let v166 : BitVec 32 := Scalar.addi v165 c192_i32
  let v167 : Index := Scalar.indexCast v166
  let c0_154 : Index := 0#32
  ![v167.toNat, 0]
def k0_dev13 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_13 : BitVec 32 := 3#32
  let v18 : BitVec 32 := Scalar.xori v2 c3_i32_13
  let c1_i32_178 : BitVec 32 := 1#32
  let v188 : BitVec 32 := Scalar.muli v18 c1_i32_178
  let v189 : BitVec 32 := Scalar.addi c0_i32_179 v188
  v189.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v20 : BitVec 32 := Scalar.xori v2 c4_i32_15
  let c1_i32_187 : BitVec 32 := 1#32
  let v198 : BitVec 32 := Scalar.muli v20 c1_i32_187
  let v199 : BitVec 32 := Scalar.addi c0_i32_188 v198
  v199.toNat
def k0_dev15 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v25 : BitVec 32 := Scalar.xori v2 c4_i32_20
  let c1_i32_216 : BitVec 32 := 1#32
  let v227 : BitVec 32 := Scalar.muli v25 c1_i32_216
  let v228 : BitVec 32 := Scalar.addi c0_i32_217 v227
  v228.toNat
def k0_dev16 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v27 : BitVec 32 := Scalar.xori v2 c1_i32_22
  let c1_i32_226 : BitVec 32 := 1#32
  let v237 : BitVec 32 := Scalar.muli v27 c1_i32_226
  let v238 : BitVec 32 := Scalar.addi c0_i32_227 v237
  v238.toNat
def k0_dev17 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v32 : BitVec 32 := Scalar.xori v2 c1_i32_27
  let c1_i32_256 : BitVec 32 := 1#32
  let v266 : BitVec 32 := Scalar.muli v32 c1_i32_256
  let v267 : BitVec 32 := Scalar.addi c0_i32_257 v266
  v267.toNat
def k0_dev18 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v34 : BitVec 32 := Scalar.xori v2 c3_i32_29
  let c1_i32_266 : BitVec 32 := 1#32
  let v276 : BitVec 32 := Scalar.muli v34 c1_i32_266
  let v277 : BitVec 32 := Scalar.addi c0_i32_267 v276
  v277.toNat
def k0_dev19 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v21 : BitVec 32 := Scalar.xori v2 c4_i32_16
  let c1_i32_295 : BitVec 32 := 1#32
  let v305 : BitVec 32 := Scalar.muli v21 c1_i32_295
  let v306 : BitVec 32 := Scalar.addi c0_i32_296 v305
  v306.toNat
def k0_dev20 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v28 : BitVec 32 := Scalar.xori v2 c1_i32_23
  let c1_i32_324 : BitVec 32 := 1#32
  let v334 : BitVec 32 := Scalar.muli v28 c1_i32_324
  let v335 : BitVec 32 := Scalar.addi c0_i32_325 v334
  v335.toNat
def k0_dev21 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v35 : BitVec 32 := Scalar.xori v2 c3_i32_30
  let c1_i32_354 : BitVec 32 := 1#32
  let v363 : BitVec 32 := Scalar.muli v35 c1_i32_354
  let v364 : BitVec 32 := Scalar.addi c0_i32_355 v363
  v364.toNat
def k0_dev22 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v22 : BitVec 32 := Scalar.xori v2 c4_i32_17
  let c1_i32_383 : BitVec 32 := 1#32
  let v392 : BitVec 32 := Scalar.muli v22 c1_i32_383
  let v393 : BitVec 32 := Scalar.addi c0_i32_384 v392
  v393.toNat
def k0_dev23 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v29 : BitVec 32 := Scalar.xori v2 c1_i32_24
  let c1_i32_412 : BitVec 32 := 1#32
  let v421 : BitVec 32 := Scalar.muli v29 c1_i32_412
  let v422 : BitVec 32 := Scalar.addi c0_i32_413 v421
  v422.toNat
def k0_dev24 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v36 : BitVec 32 := Scalar.xori v2 c3_i32_31
  let c1_i32_442 : BitVec 32 := 1#32
  let v450 : BitVec 32 := Scalar.muli v36 c1_i32_442
  let v451 : BitVec 32 := Scalar.addi c0_i32_443 v450
  v451.toNat
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.lean ====
/-
The combinatorics of the exchange, free of any program: eight devices, numbered 0 … 7, that trade blocks along the
three involutions `c ↦ c xor 1`, `c ↦ c xor 3`, `c ↦ c xor 4`. Every device's block of rows is cut in three PARTS; a
part visits the three involutions in its own cyclic order, and doubles what a device holds of it at each. Of one part a
device has eight SLOTS: slot 0 for its own rows, slot `i + 1` filled by transfer `i` (`i < 7`) from another device.
The last section times the program's steps: the one linear order in which a device takes them.
-/
module

public import Mathlib.Data.Fin.Basic
public import Mathlib.Data.Fintype.Prod
public import Mathlib.Tactic.FinCases

@[expose] public section

namespace Cert.Mesh

/-- The eight devices. -/
abbrev Dv : Type := Fin 8
/-- The three parts of a device's rows. -/
abbrev Part : Type := Fin 3
/-- The three involutions of the devices. -/
abbrev Hop : Type := Fin 3
/-- A transfer: of a part, the `i`-th. -/
abbrev Xfer : Type := Part × Fin 7
/-- A slot of a part. -/
abbrev Slot : Type := Part × Fin 8

/-- The rows of a part, and where they begin in a device's 512 rows. -/
def rows : Part → ℕ | 0 => 192 | 1 => 160 | 2 => 160
def offs : Part → ℕ | 0 => 0 | 1 => 192 | 2 => 352

/-- The word each involution xors a device's number with. -/
def mask : Hop → ℕ | 0 => 1 | 1 => 3 | 2 => 4

/-- Device `c` across the involution `h`. -/
def flip (h : Hop) (c : Dv) : Dv := ⟨(c.val ^^^ mask h) % 8, Nat.mod_lt _ (by decide)⟩

theorem flip_flip : ∀ (h : Hop) (c : Dv), flip h (flip h c) = c := by decide

/-- The round of the exchange a transfer belongs to. -/
def phase : Fin 7 → Fin 3 | 0 => 0 | 1 => 1 | 2 => 1 | 3 => 2 | 4 => 2 | 5 => 2 | 6 => 2
/-- The slot a transfer copies out of. -/
def srcSlot : Fin 7 → Fin 8 | 0 => 0 | 1 => 0 | 2 => 1 | 3 => 0 | 4 => 1 | 5 => 2 | 6 => 3
/-- The slot a transfer fills. -/
def dstSlot (i : Fin 7) : Fin 8 := i.succ
/-- How many transfers before this one copy out of the same slot. -/
def rank : Fin 7 → ℕ | 0 => 0 | 1 => 1 | 2 => 0 | 3 => 2 | 4 => 1 | 5 => 0 | 6 => 0

/-- The involution a transfer goes across. -/
def hop (t : Xfer) : Hop := t.1 + phase t.2
/-- The device at the other end of a transfer. -/
def peer (t : Xfer) (c : Dv) : Dv := flip (hop t) c

theorem peer_peer (t : Xfer) (c : Dv) : peer t (peer t c) = c := flip_flip _ _

/-- Slot `j` of part `p` at device `c` ends up holding the rows of the device whose number is `c` xor this word. -/
def word (p : Part) (j : Fin 8) : ℕ :=
  (if j.val % 2 = 1 then mask p else 0) ^^^ (if j.val / 2 % 2 = 1 then mask (p + 1) else 0)
    ^^^ (if j.val / 4 = 1 then mask (p + 2) else 0)

/-- The device whose rows slot `j` of part `p` at device `c` holds. -/
def orig (p : Part) (j : Fin 8) (c : Dv) : Dv := ⟨(c.val ^^^ word p j) % 8, Nat.mod_lt _ (by decide)⟩

theorem orig_zero : ∀ (p : Part) (c : Dv), orig p 0 c = c := by decide

/-- What a transfer lands: the filled slot's rows are the sender's source slot's. -/
theorem orig_dst : ∀ (p : Part) (i : Fin 7) (c : Dv), orig p (dstSlot i) c = orig p (srcSlot i) (peer (p, i) c) := by decide

theorem orig_dst_peer (p : Part) (i : Fin 7) (c : Dv) : orig p (dstSlot i) (peer (p, i) c) = orig p (srcSlot i) c := by
  rw [orig_dst, peer_peer]

/-- Every device's rows of a part are held in exactly one slot. -/
theorem orig_inj : ∀ (p : Part) (c : Dv) (j j' : Fin 8), orig p j c = orig p j' c → j = j' := by decide
theorem orig_surj : ∀ (p : Part) (c o : Dv), ∃ j, orig p j c = o := by decide

/-! ## The order of a device's steps

A device's steps that change what it holds, numbered: it files its rows of each part in slot 0 and starts that part's
three transfers out of slot 0; makes its copy of the weights; multiplies slot 0; then part by part takes in a slot,
starts the transfers out of it, multiplies it; and last waits for its own transfers to have left. -/

def fileAt (p : Part) : ℕ := 4 * p.val
def weightsAt : ℕ := 12

def sendAt (t : Xfer) : ℕ := match t.2 with
  | 0 => 4 * t.1.val + 1 | 1 => 4 * t.1.val + 2 | 3 => 4 * t.1.val + 3
  | 2 => 17 + 4 * t.1.val | 4 => 18 + 4 * t.1.val
  | 5 => 29 + 3 * t.1.val | 6 => 38 + 3 * t.1.val

def recvAt (t : Xfer) : ℕ := match t.2 with
  | 0 => 16 + 4 * t.1.val | 1 => 28 + 3 * t.1.val | 2 => 37 + 3 * t.1.val
  | 3 => 46 + 2 * t.1.val | 4 => 52 + 2 * t.1.val | 5 => 58 + 2 * t.1.val | 6 => 64 + 2 * t.1.val

def mulAt (s : Slot) : ℕ := match s.2 with
  | 0 => 13 + s.1.val | 1 => 19 + 4 * s.1.val | 2 => 30 + 3 * s.1.val | 3 => 39 + 3 * s.1.val
  | 4 => 47 + 2 * s.1.val | 5 => 53 + 2 * s.1.val | 6 => 59 + 2 * s.1.val | 7 => 65 + 2 * s.1.val

def leftAt (t : Xfer) : ℕ := 70 + 7 * t.1.val + t.2.val
def lastAt : ℕ := 91

/-- When a slot comes to hold its rows. -/
def haveAt (s : Slot) : ℕ := match s.2 with
  | 0 => fileAt s.1 | 1 => recvAt (s.1, 0) | 2 => recvAt (s.1, 1) | 3 => recvAt (s.1, 2)
  | 4 => recvAt (s.1, 3) | 5 => recvAt (s.1, 4) | 6 => recvAt (s.1, 5) | 7 => recvAt (s.1, 6)

theorem haveAt_zero (p : Part) : haveAt (p, 0) = fileAt p := rfl
theorem haveAt_dst : ∀ (p : Part) (i : Fin 7), haveAt (p, dstSlot i) = recvAt (p, i) := by decide

theorem sendAt_inj : ∀ t t' : Xfer, sendAt t = sendAt t' → t = t' := by decide
theorem recvAt_inj : ∀ t t' : Xfer, recvAt t = recvAt t' → t = t' := by decide
theorem mulAt_inj : ∀ s s' : Slot, mulAt s = mulAt s' → s = s' := by decide +kernel
theorem leftAt_inj : ∀ t t' : Xfer, leftAt t = leftAt t' → t = t' := by decide
theorem haveAt_inj : ∀ s s' : Slot, haveAt s = haveAt s' → s = s' := by decide +kernel

theorem send_ne_recv : ∀ t t' : Xfer, sendAt t ≠ recvAt t' := by decide
theorem send_ne_mul : ∀ (t : Xfer) (s : Slot), sendAt t ≠ mulAt s := by decide
theorem send_ne_left : ∀ t t' : Xfer, sendAt t ≠ leftAt t' := by decide
theorem send_ne_have : ∀ (t : Xfer) (s : Slot), sendAt t ≠ haveAt s := by decide
theorem send_ne_weights : ∀ t : Xfer, sendAt t ≠ weightsAt := by decide
theorem recv_ne_mul : ∀ (t : Xfer) (s : Slot), recvAt t ≠ mulAt s := by decide
theorem recv_ne_left : ∀ t t' : Xfer, recvAt t ≠ leftAt t' := by decide
theorem recv_ne_weights : ∀ t : Xfer, recvAt t ≠ weightsAt := by decide
theorem recv_ne_file : ∀ (t : Xfer) (p : Part), recvAt t ≠ fileAt p := by decide
theorem mul_ne_left : ∀ (s : Slot) (t : Xfer), mulAt s ≠ leftAt t := by decide
theorem mul_ne_have : ∀ s s' : Slot, mulAt s ≠ haveAt s' := by decide +kernel
theorem mul_ne_weights : ∀ s : Slot, mulAt s ≠ weightsAt := by decide
theorem left_ne_have : ∀ (t : Xfer) (s : Slot), leftAt t ≠ haveAt s := by decide
theorem left_ne_weights : ∀ t : Xfer, leftAt t ≠ weightsAt := by decide
theorem weights_ne_have : ∀ s : Slot, weightsAt ≠ haveAt s := by decide
theorem file_ne_send (p : Part) (t : Xfer) : fileAt p ≠ sendAt t := fun h => send_ne_have t (p, 0) h.symm
theorem file_ne_left : ∀ (p : Part) (t : Xfer), fileAt p ≠ leftAt t := by decide
theorem file_ne_mul : ∀ (p : Part) (s : Slot), fileAt p ≠ mulAt s := by decide
theorem file_ne_weights : ∀ p : Part, fileAt p ≠ weightsAt := by decide

theorem send_lt_left : ∀ t : Xfer, sendAt t < leftAt t := by decide
theorem send_after_have : ∀ t : Xfer, haveAt (t.1, srcSlot t.2) < sendAt t := by decide
theorem mul_after_have : ∀ s : Slot, haveAt s < mulAt s := by decide
theorem mul_after_weights : ∀ s : Slot, weightsAt < mulAt s := by decide
theorem all_before_last : ∀ t : Xfer, recvAt t < lastAt ∧ sendAt t < lastAt ∧ leftAt t < lastAt := by decide
theorem have_before_last : ∀ s : Slot, haveAt s < lastAt := by decide
theorem mul_before_last : ∀ s : Slot, mulAt s < lastAt := by decide

/-- How many transfers out of slot `s` have started before step `k`. -/
def lentBy (k : ℕ) (s : Slot) : ℕ := ((Finset.univ : Finset (Fin 7)).filter fun i => srcSlot i = s.2 ∧ sendAt (s.1, i) < k).card

theorem lentBy_send : ∀ t : Xfer, lentBy (sendAt t) (t.1, srcSlot t.2) = rank t.2
    ∧ lentBy (sendAt t + 1) (t.1, srcSlot t.2) = rank t.2 + 1 := by decide +kernel
theorem lentBy_other : ∀ (t : Xfer) (s : Slot), s ≠ (t.1, srcSlot t.2) → lentBy (sendAt t + 1) s = lentBy (sendAt t) s := by decide +kernel
theorem lentBy_have : ∀ s : Slot, lentBy (haveAt s + 1) s = 0 := by decide +kernel

/-- At a step that starts no transfer, nothing more is lent. -/
theorem lentBy_succ (k : ℕ) (h : ∀ t, sendAt t ≠ k) (s : Slot) : lentBy (k + 1) s = lentBy k s := by
  unfold lentBy
  refine congrArg Finset.card (Finset.filter_congr fun i _ => and_congr_right fun _ => ?_)
  have := h (s.1, i); omega

/-! ## What is owed, and in which order it may be waited for

A device waits for a slot while it still owes later transfers only: the slot of transfer `i` has level `i + 2`, and at
the step where it is waited for every transfer not yet started has a greater number. -/

theorem recv_below : ∀ t t' : Xfer, recvAt t ≤ sendAt t' → t.2.val < t'.2.val := by decide

end Cert.Mesh
-- ==== Proof.KernelIdeal.Protocol.lean ====
/-
The protocol the eight devices keep: which semaphore stands for what, who pays into it, and what each payment hands
over. Generic in the float instance.

A device has a BARRIER cell, and for each of the 21 transfers (three parts, seven each) a cell that fills when the
transfer has LEFT it (`send`) and a cell that fills when the transfer addressed to it has LANDED (`recv`). Every cell is
used for one round.

* The barrier takes one unit from each of the three devices across an involution. The unit from across involution `h`
  hands the waiter every slot it will fill over there: those of the transfers that go across `h`.
* A landing hands the receiver the filled slot, holding the rows of the device it came from.
* A leaving hands the sender back the share of the source slot it lent to the transfer.
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds library's ghost state: one for the pipeline's staging cells, one for the exchange's. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR
abbrev 𝒱₀ : Variants := Variants.none

variable (m : (ℓ : Loc nD τ sig) → Buf (Elt F) ℓ) (ρ : Dev nD → PrngReg)

/-- The state the call starts from. -/
def s₀ : MemSt nD τ sig (Elt F) := ⟨m, fun _ => 0, ρ⟩

/-! ## Semaphores -/

/-- The semaphore that a transfer fills at its sender, and the one it fills at its receiver. -/
def sendSem (t : Xfer) : DmaSem sig := ⟨5 + 14 * t.1.val + t.2.val, by have := t.1.isLt; have := t.2.isLt; show _ < 47; omega⟩
def recvSem (t : Xfer) : DmaSem sig := ⟨12 + 14 * t.1.val + t.2.val, by have := t.1.isLt; have := t.2.isLt; show _ < 47; omega⟩
/-- The barrier's semaphore. -/
abbrev barSem : Sem sig := 0

abbrev sendCell (c : Dev nD) (t : Xfer) : GSem nD τ sig := ((c : Thread nD τ), .dma (sendSem t))
abbrev recvCell (c : Dev nD) (t : Xfer) : GSem nD τ sig := ((c : Thread nD τ), .dma (recvSem t))
abbrev barCell (c : Dev nD) : GSem nD τ sig := ((c : Thread nD τ), .reg barSem)

/-- What a semaphore stands for. -/
inductive Kind
  | other | bar | send (t : Xfer) | recv (t : Xfer)
  deriving DecidableEq

def kind : SemLoc sig → Kind
  | .reg s => if s.val = 0 then .bar else .other
  | .dma s =>
    if s.val < 5 then .other
    else if (s.val - 5) / 7 % 2 = 0 then .send (⟨(s.val - 5) / 14 % 3, Nat.mod_lt _ (by decide)⟩, ⟨(s.val - 5) % 7, Nat.mod_lt _ (by decide)⟩)
    else .recv (⟨(s.val - 5) / 14 % 3, Nat.mod_lt _ (by decide)⟩, ⟨(s.val - 5) % 7, Nat.mod_lt _ (by decide)⟩)

theorem kind_bar : kind (.reg barSem) = .bar := by decide
theorem kind_send : ∀ t : Xfer, kind (.dma (sendSem t)) = .send t := by decide
theorem kind_recv : ∀ t : Xfer, kind (.dma (recvSem t)) = .recv t := by decide

/-! ## Slots -/

/-- A slot's shape: one of eight blocks of a part's rows; and with the leading 1 dropped, as a transfer sees it. -/
abbrev SlotShape (p : Part) : Shape := ⟨3, ![1, rows p, 4096]⟩
abbrev RowShape (p : Part) : Shape := ⟨2, ![rows p, 4096]⟩

/-- The buffer of a part's eight slots. -/
def bufOf : (p : Part) → Memref sig .tc .vmem ⟨3, ![8, rows p, 4096]⟩ .fp8e4m3
  | 0 => Memref.whole cc0_scratch1
  | 1 => Memref.whole cc0_scratch2
  | 2 => Memref.whole cc0_scratch3

theorem slot_inb (p : Part) (j : Fin 8) : ∀ a : Fin 3, (![j.val, 0, 0] : Fin 3 → ℕ) a + (SlotShape p).size a ≤ (![8, rows p, 4096] : Fin 3 → ℕ) a := by
  intro a; have := j.isLt
  match a with
  | 0 => show j.val + 1 ≤ 8; omega
  | 1 => show 0 + rows p ≤ rows p; omega
  | 2 => show 0 + 4096 ≤ 4096; omega

/-- Slot `j` of part `p`, as a rectangle of the part's buffer, as a block of it, and as a transfer sees it. -/
def slotRect (p : Part) (j : Fin 8) : Rect ⟨3, ![8, rows p, 4096]⟩ := Rect.unit (s := ⟨3, ![8, rows p, 4096]⟩) ![j.val, 0, 0] (SlotShape p).size (slot_inb p j)
def slotV (p : Part) (j : Fin 8) : View sig .tc .vmem (SlotShape p) .fp8e4m3 := (bufOf p).access (slotRect p j)
def slotM (p : Part) (j : Fin 8) : Memref sig .tc .vmem (SlotShape p) .fp8e4m3 := (bufOf p).slice (slotRect p j) (fun _ => rfl)
theorem slot_squeezes (p : Part) : (SlotShape p).Squeezes (RowShape p) := by
  match p with
  | 0 => exact squeezes_S1x192x4096_S192x4096
  | 1 => exact squeezes_S1x160x4096_S160x4096
  | 2 => exact squeezes_S1x160x4096_S160x4096
def slotSq (p : Part) (j : Fin 8) : Memref sig .tc .vmem (RowShape p) .fp8e4m3 :=
  (slotM p j).squeeze (RowShape p) (slot_squeezes p)

theorem slotSq_view (p : Part) (j : Fin 8) : (slotSq p j).view = (slotV p j).reshape (RowShape p) (slot_squeezes p).numel_eq := rfl
theorem slotSq_set (p : Part) (j : Fin 8) : (slotSq p j).view.set = (slotV p j).set := View.set_reshape (slotV p j) _

/-- The credit of a transfer of part `p`. -/
def N (p : Part) : ℕ := (slotSq p 0).view.dmaCredit
theorem N_eq (p : Part) (j : Fin 8) : (slotSq p j).view.dmaCredit = N p := by
  match p with | 0 => rfl | 1 => rfl | 2 => rfl
theorem N_pos (p : Part) : 0 < N p := by
  match p with
  | 0 => exact View.dmaCredit_pos _ (by decide)
  | 1 => exact View.dmaCredit_pos _ (by decide)
  | 2 => exact View.dmaCredit_pos _ (by decide)

/-- A view of a block and its reshape: what is written through the reshape, from another block's reshape, is read back
    through the block as that other block. -/
theorem read_landed {s s' : Shape} {e : EltTy} (u v : View sig .tc .vmem s e) (h : s'.numel = s.numel) (fu : u.ty.Contents (Elt F)) (fv : v.ty.Contents (Elt F)) :
    v.read (Elt F) ((v.reshape s' h).write (Elt F) fv ((u.reshape s' h).read (Elt F) fu) Finset.univ) = u.read (Elt F) fu := by
  rw [View.write_reshape_univ, View.read_write_univ]
  funext x
  rw [View.read_apply, View.read_apply, View.emb_reshape]
  simp

/-! ## Contents -/

/-- What the four staging buffers of the arguments hold. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

theorem part_inb (p : Part) : ∀ a : Fin 2, (![offs p, 0] : Fin 2 → ℕ) a + (RowShape p).size a ≤ S512x4096.size a := by
  intro a
  match p, a with
  | 0, 0 | 0, 1 | 1, 0 | 1, 1 | 2, 0 | 2, 1 => decide

/-- The rows of part `p` that device `o` holds at first. -/
def rowsOf (p : Part) (o : Dev nD) : Vec F (RowShape p) .fp8e4m3 :=
  (Memref.whole cc0_stg0_0 : Memref sig .tc .vmem S512x4096 .fp8e4m3).view.readAt (Elt F)
    (Rect.unit (s := S512x4096) ![offs p, 0] (RowShape p).size (part_inb p)).toLoadRect (xstg m ρ o)

/-- Rows as they are filed in a slot. -/
def filed : (p : Part) → Vec F (RowShape p) .fp8e4m3 → Vec F (SlotShape p) .fp8e4m3
  | 0 => k0_pay2
  | 1 => k0_pay3
  | 2 => k0_pay4

/-- What a slot holds that holds device `o`'s rows of part `p`. -/
def xpart (p : Part) (o : Dev nD) : Vec F (SlotShape p) .fp8e4m3 := filed p (rowsOf m ρ p o)

/-- A slot of device `c` held at a share, holding device `o`'s rows; and a slot held whole, whatever it holds. -/
def slotHas (c : Dev nD) (p : Part) (j : Fin 8) (q : PosShare TreeShare) (o : Dev nD) : sProp 𝕄 :=
  owns (c : Thread nD τ) (slotM p j) q (xpart m ρ p o)
def slotAny (c : Dev nD) (p : Part) (j : Fin 8) : sProp 𝕄 :=
  iprop(∃ f : Buf (Elt F) ((slotV p j).loc (c : Thread nD τ)), ((slotV p j).loc (c : Thread nD τ) ↦[(slotV p j).set]{fullShare} f))

theorem slotHas_eq (c : Dev nD) (p : Part) (j : Fin 8) (q : PosShare TreeShare) (o : Dev nD) :
    slotHas m ρ c p j q o = iprop(∃ f : Buf (Elt F) ((slotV p j).loc (c : Thread nD τ)),
      ⌜(slotV p j).read (Elt F) f = xpart m ρ p o⌝ ∗ ((slotV p j).loc (c : Thread nD τ) ↦[(slotV p j).set]{q} f)) := rfl

instance slotHas_storable (c : Dev nD) (p : Part) (j : Fin 8) (q : PosShare TreeShare) (o : Dev nD) :
    BI.Storable (upEmb : UEmb _ 𝕄) (slotHas m ρ c p j q o) := by unfold slotHas; infer_instance
omit [FloatOps F] in
instance slotAny_storable (c : Dev nD) (p : Part) (j : Fin 8) :
    BI.Storable (upEmb : UEmb _ 𝕄) (slotAny (F := F) c p j) := by unfold slotAny; infer_instance

/-- The share of a slot kept after `n` transfers out of it started, and the share the next one borrows. -/
def kept : ℕ → PosShare TreeShare
  | 0 => fullShare
  | n + 1 => (kept n).right
def lend (n : ℕ) : PosShare TreeShare := (kept n).left

theorem slotHas_lend (c : Dev nD) (p : Part) (j : Fin 8) (n : ℕ) (o : Dev nD) :
    slotHas m ρ c p j (kept n) o ⊢ iprop(slotHas m ρ c p j (lend n) o ∗ slotHas m ρ c p j (kept (n + 1)) o) := by
  unfold slotHas lend; exact (owns_halves _ _ _ _).1
theorem slotHas_back (c : Dev nD) (p : Part) (j : Fin 8) (n : ℕ) (o : Dev nD) :
    iprop(slotHas m ρ c p j (lend n) o ∗ slotHas m ρ c p j (kept (n + 1)) o) ⊢ slotHas m ρ c p j (kept n) o := by
  unfold slotHas lend; exact (owns_halves _ _ _ _).2

/-! ## The schedule -/

/-- The slots that device `c` fills across involution `h`. -/
def barPay (c : Dev nD) (h : Hop) : sProp 𝕄 :=
  bigSep Finset.univ fun t : Xfer => if hop t = h then slotAny (peer t c) t.1 (dstSlot t.2) else iprop(emp)
/-- What a landing hands the receiver, a leaving the sender. -/
def recvPay (c : Dev nD) (t : Xfer) : sProp 𝕄 := slotHas m ρ c t.1 (dstSlot t.2) fullShare (orig t.1 (dstSlot t.2) c)
def sendPay (c : Dev nD) (t : Xfer) : sProp 𝕄 := slotHas m ρ c t.1 (srcSlot t.2) (lend (rank t.2)) (orig t.1 (srcSlot t.2) c)

instance barPay_storable (c : Dev nD) (h : Hop) : BI.Storable (upEmb : UEmb _ 𝕄) (barPay (F := F) c h) := by
  unfold barPay
  have : ∀ t : Xfer, BI.Storable (upEmb : UEmb _ 𝕄) (if hop t = h then slotAny (F := F) (peer t c) t.1 (dstSlot t.2) else iprop(emp)) := by
    intro t; split <;> infer_instance
  infer_instance
instance recvPay_storable (c : Dev nD) (t : Xfer) : BI.Storable (upEmb : UEmb _ 𝕄) (recvPay m ρ c t) := by unfold recvPay; infer_instance
instance sendPay_storable (c : Dev nD) (t : Xfer) : BI.Storable (upEmb : UEmb _ 𝕄) (sendPay m ρ c t) := by unfold sendPay; infer_instance

def dutiesOf : Kind → Finset (Fin 3)
  | .bar => Finset.univ
  | .send _ | .recv _ => {0}
  | .other => ∅
def amountOf : Kind → ℕ
  | .bar | .other => 1
  | .send t | .recv t => N t.1
def payOf (c : Dev nD) (h : Hop) : Kind → sProp 𝕄
  | .bar => barPay c h
  | .send t => sendPay m ρ c t
  | .recv t => recvPay m ρ c t
  | .other => iprop(emp)

/-- The exchange's schedule: every cell of a device's core has one round. -/
def Rd : Rounds.Schedule (GSem nD τ sig) (Fin 3) 𝕄 where
  duties g r := if r = 0 ∧ g.1.2 = .tc then dutiesOf (kind g.2) else ∅
  unitless _ := False
  amount g _ _ := amountOf (kind g.2)
  payload g _ h := payOf m ρ g.1.1 h (kind g.2)
  amount_pos g _ _ _ := by
    cases kind g.2 with
    | other => exact Nat.one_pos
    | bar => exact Nat.one_pos
    | send t => exact N_pos t.1
    | recv t => exact N_pos t.1

instance Rd_payload_storable (g : GSem nD τ sig) (r : ℕ) (d : Fin 3) : BI.Storable (upEmb : UEmb _ 𝕄) ((Rd (F := F) m ρ).payload g r d) := by
  show BI.Storable upEmb (payOf m ρ g.1.1 d (kind g.2))
  cases kind g.2 <;> unfold payOf <;> infer_instance

section Sched
variable (c : Dev nD) (t : Xfer) (d : Fin 3)

theorem duties_bar : (Rd (F := F) m ρ).duties (barCell c) 0 = Finset.univ := by
  show (if 0 = 0 ∧ (c : Thread nD τ).2 = .tc then dutiesOf (kind (.reg barSem)) else ∅) = _; rw [if_pos ⟨rfl, rfl⟩, kind_bar]; rfl
theorem duties_send : (Rd (F := F) m ρ).duties (sendCell c t) 0 = {0} := by
  show (if 0 = 0 ∧ (c : Thread nD τ).2 = .tc then dutiesOf (kind (.dma (sendSem t))) else ∅) = _; rw [if_pos ⟨rfl, rfl⟩, kind_send]; rfl
theorem duties_recv : (Rd (F := F) m ρ).duties (recvCell c t) 0 = {0} := by
  show (if 0 = 0 ∧ (c : Thread nD τ).2 = .tc then dutiesOf (kind (.dma (recvSem t))) else ∅) = _; rw [if_pos ⟨rfl, rfl⟩, kind_recv]; rfl
theorem duties_later (g : GSem nD τ sig) : ∀ r, 1 ≤ r → (Rd (F := F) m ρ).duties g r = ∅ :=
  fun r hr => by dsimp only [Rd]; exact if_neg fun h => by omega

theorem amount_bar : (Rd (F := F) m ρ).amount (barCell c) 0 d = 1 := by
  show amountOf (kind (.reg barSem)) = _; rw [kind_bar]; rfl
theorem amount_send : (Rd (F := F) m ρ).amount (sendCell c t) 0 d = N t.1 := by
  show amountOf (kind (.dma (sendSem t))) = _; rw [kind_send]; rfl
theorem amount_recv : (Rd (F := F) m ρ).amount (recvCell c t) 0 d = N t.1 := by
  show amountOf (kind (.dma (recvSem t))) = _; rw [kind_recv]; rfl

theorem expect_bar : (Rd (F := F) m ρ).expect (barCell c) 0 = 3 := by
  unfold Schedule.expect Schedule.amountOf; rw [duties_bar, Finset.sum_congr rfl fun d _ => amount_bar m ρ c d]; rfl
theorem expect_send : (Rd (F := F) m ρ).expect (sendCell c t) 0 = N t.1 := by
  unfold Schedule.expect Schedule.amountOf; rw [duties_send, Finset.sum_singleton, amount_send]
theorem expect_recv : (Rd (F := F) m ρ).expect (recvCell c t) 0 = N t.1 := by
  unfold Schedule.expect Schedule.amountOf; rw [duties_recv, Finset.sum_singleton, amount_recv]

theorem payload_bar : (Rd (F := F) m ρ).payload (barCell c) 0 d = barPay c d := by
  show payOf m ρ c d (kind (.reg barSem)) = _; rw [kind_bar]; rfl
theorem payload_send : (Rd (F := F) m ρ).payload (sendCell c t) 0 d = sendPay m ρ c t := by
  show payOf m ρ c d (kind (.dma (sendSem t))) = _; rw [kind_send]; rfl
theorem payload_recv : (Rd (F := F) m ρ).payload (recvCell c t) 0 d = recvPay m ρ c t := by
  show payOf m ρ c d (kind (.dma (recvSem t))) = _; rw [kind_recv]; rfl

theorem rest_bar : bigSep ((Rd (F := F) m ρ).duties (barCell c) 0 \ ∅) (fun u => (Rd (F := F) m ρ).payload (barCell c) 0 u) = bigSep Finset.univ (barPay (F := F) c) := by
  rw [Finset.sdiff_empty, duties_bar]; exact bigSep_congr fun d _ => payload_bar m ρ c d
theorem rest_send : bigSep ((Rd (F := F) m ρ).duties (sendCell c t) 0 \ ∅) (fun u => (Rd (F := F) m ρ).payload (sendCell c t) 0 u) = sendPay m ρ c t := by
  rw [Finset.sdiff_empty, duties_send, bigSep_singleton, payload_send]
theorem rest_recv : bigSep ((Rd (F := F) m ρ).duties (recvCell c t) 0 \ ∅) (fun u => (Rd (F := F) m ρ).payload (recvCell c t) 0 u) = recvPay m ρ c t := by
  rw [Finset.sdiff_empty, duties_recv, bigSep_singleton, payload_recv]

end Sched

/-! ## What a device owes, and the levels that order the waits -/

/-- What device `c` owes before step `k`: every transfer not yet started, to the cell it will land on. -/
def owed (c : Dev nD) (k : ℕ) : CellTallies nD τ sig Unit :=
  ∑ t : Xfer, if sendAt t < k then 0 else tallyAt (recvCell (peer t c) t) () (N t.1)

/-- What it owes at launch: all transfers, and a unit to each barrier across an involution. -/
def O₀ (c : Dev nD) : CellTallies nD τ sig Unit :=
  owed c 0 + tallyAt (barCell (flip 2 c)) () 1 + tallyAt (barCell (flip 1 c)) () 1 + tallyAt (barCell (flip 0 c)) () 1

theorem owed_send (c : Dev nD) (t : Xfer) : owed c (sendAt t) = owed c (sendAt t + 1) + tallyAt (recvCell (peer t c) t) () (N t.1) := by
  unfold owed
  rw [← Finset.sum_erase_add _ _ (Finset.mem_univ t), ← Finset.sum_erase_add (a := t) _ _ (Finset.mem_univ t)]
  rw [if_neg (lt_irrefl _), if_pos (Nat.lt_succ_self _), add_zero]
  congr 1
  refine Finset.sum_congr rfl fun t' ht' => ?_
  have hne : sendAt t' ≠ sendAt t := fun h => (Finset.mem_erase.mp ht').1 (sendAt_inj _ _ h)
  by_cases h : sendAt t' < sendAt t
  · rw [if_pos h, if_pos (by omega)]
  · rw [if_neg h, if_neg (by omega)]

theorem owed_succ (c : Dev nD) (k : ℕ) (h : ∀ t, sendAt t ≠ k) : owed c (k + 1) = owed c k := by
  unfold owed
  refine Finset.sum_congr rfl fun t _ => ?_
  have := h t
  by_cases h : sendAt t < k
  · rw [if_pos h, if_pos (by omega)]
  · rw [if_neg h, if_neg (by omega)]

theorem owed_last (c : Dev nD) : owed c lastAt = 0 := by
  unfold owed
  exact Finset.sum_eq_zero fun t _ => if_pos (all_before_last t).2.1

theorem owed_pos {c : Dev nD} {k : ℕ} {g : GSem nD τ sig} {u : Unit} (h : 0 < owed c k g u) : ∃ t, k ≤ sendAt t ∧ g = recvCell (peer t c) t := by
  by_contra hn
  push Not at hn
  have : owed c k g u = 0 := by
    unfold owed
    rw [Finset.sum_apply, Finsupp.finset_sum_apply]
    refine Finset.sum_eq_zero fun t _ => ?_
    by_cases ht : sendAt t < k
    · rw [if_pos ht]; rfl
    · rw [if_neg ht, tallyAt_apply, if_neg fun h' => hn t (by omega) h'.1]
  omega

theorem O₀_pos {c : Dev nD} {g : GSem nD τ sig} {u : Unit} (h : 0 < O₀ c g u) : (∃ t, g = recvCell (peer t c) t) ∨ ∃ h, g = barCell (flip h c) := by
  by_contra hn
  push Not at hn
  have h0 : owed c 0 g u = 0 := by
    by_contra hne
    obtain ⟨t, -, ht⟩ := owed_pos (Nat.pos_of_ne_zero hne)
    exact hn.1 t ht
  unfold O₀ at h
  rw [Pi.add_apply, Finsupp.add_apply, Pi.add_apply, Finsupp.add_apply, Pi.add_apply, Finsupp.add_apply, h0,
    tallyAt_apply, tallyAt_apply, tallyAt_apply, if_neg fun h' => hn.2 2 h'.1, if_neg fun h' => hn.2 1 h'.1, if_neg fun h' => hn.2 0 h'.1] at h
  exact Nat.lt_irrefl 0 h

def L (g : GSem nD τ sig) : Finset Unit := if g.1.2 = .tc then {()} else ∅
def levelOf : Kind → ℕ
  | .bar => 1
  | .recv t => t.2.val + 2
  | .send _ | .other => 0
def lv (g : GSem nD τ sig) (_ : Unit) : ℕ := levelOf (kind g.2)
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Xfer) (u : Unit) : lv (recvCell c t) u = t.2.val + 2 := by
  show levelOf (kind (.dma (recvSem t))) = _; rw [kind_recv]; rfl
theorem lv_bar (c : Dev nD) (u : Unit) : lv (barCell c) u = 1 := by
  show levelOf (kind (.reg barSem)) = _; rw [kind_bar]; rfl

/-- A wait below everything still owed is allowed. -/
theorem mayWait_of (c : Dev nD) (sm : SemLoc sig) (O : CellTallies nD τ sig Unit) (cut : ℕ) (hs : levelOf (kind sm) ≤ cut)
    (hO : ∀ g u, 0 < O g u → g.1.2 = .tc ∧ cut < lv g u) : (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_stage (c : Dev nD) (q : DmaSem sig) (hq : kind (.dma q) = .other) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by rw [hq]; exact le_rfl) fun g u hg => ?_
    rcases O₀_pos hg with ⟨t, rfl⟩ | ⟨h, rfl⟩
    · exact ⟨rfl, by rw [lv_recv]; omega⟩
    · exact ⟨rfl, by rw [lv_bar]; omega⟩
  · rw [MayWait_zero]; iintro -; iempintro

theorem mayWait_bar (c : Dev nD) : (levAts L lv : sProp 𝕄) ⊢ MayWait (c : Thread nD τ) (.reg barSem) () (owed c 0) :=
  mayWait_of c _ _ 1 (by rw [kind_bar]; exact le_rfl) fun g u hg => by
    obtain ⟨t, -, rfl⟩ := owed_pos hg
    exact ⟨rfl, by rw [lv_recv]; omega⟩

theorem mayWait_recv (c : Dev nD) (t : Xfer) : (levAts L lv : sProp 𝕄) ⊢ MayWait (c : Thread nD τ) (.dma (recvSem t)) () (owed c (recvAt t)) :=
  mayWait_of c _ _ (t.2.val + 2) (by rw [kind_recv]; exact le_rfl) fun g u hg => by
    obtain ⟨t', ht', rfl⟩ := owed_pos hg
    exact ⟨rfl, by rw [lv_recv]; have := recv_below t t' ht'; omega⟩

theorem mayWait_send (c : Dev nD) (t : Xfer) (k : ℕ) : (levAts L lv : sProp 𝕄) ⊢ MayWait (c : Thread nD τ) (.dma (sendSem t)) () (owed c k) :=
  mayWait_of c _ _ 0 (by rw [kind_send]; exact le_rfl) fun g u hg => by
    obtain ⟨t', -, rfl⟩ := owed_pos hg
    exact ⟨rfl, by rw [lv_recv]; omega⟩

/-- The bytes of a transfer land as they left: the filled slot holds the sender's rows. -/
theorem landed (p : Part) (j j' : Fin 8) (fs : (slotV p j).ty.Contents (Elt F)) (fd : (slotV p j').ty.Contents (Elt F)) :
    (slotV p j').read (Elt F) ((slotSq p j').view.write (Elt F) fd ((slotSq p j).view.read (Elt F) fs) Finset.univ) = (slotV p j).read (Elt F) fs :=
  read_landed (slotV p j) (slotV p j') (slot_squeezes p).numel_eq fs fd

end Cert.KernelIdeal.Exchange
-- ==== Proof.KernelIdeal.State.lean ====
/-
What a device holds before each step of its program: one assertion `On K c k` for all steps `k` (numbered in
`Proof.Mesh`), made of what it holds of each transfer it sends, of each it receives, of each slot, of its copy of the
weights, and of its result. Generic in the float instance.
-/
module

public import proofs.«01_k».proof.Proof.KernelIdeal.Protocol

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The product of the two scales, each read as the one element of its buffer. -/
abbrev oneRect : Rect S1 := Rect.unit (s := S1) ![0] S1.size inb_S1_S1_0
def scale (c : Dev nD) : F .f32 :=
  k0_pay1 (((Memref.whole cc0_stg2_0 : Memref sig .tc .smem S1 .f32).access oneRect).read (Elt F) (sxstg m ρ c) (Shape.Idx.first (numel1_S1 ▸ Nat.one_pos)))
    (((Memref.whole cc0_stg3_0 : Memref sig .tc .smem S1 .f32).access oneRect).read (Elt F) (swstg m ρ c) (Shape.Idx.first (numel1_S1 ▸ Nat.one_pos)))

/-- The device's copy of its weights. -/
abbrev wRect : Rect S4096x1024 := Rect.unit (s := S4096x1024) ![0, 0] S4096x1024.size inb_S4096x1024_S4096x1024_0_0
theorem zero_offs : (![0, 0] : Fin 2 → ℕ) = fun _ => 0 := funext fun a => by fin_cases a <;> rfl
def weights (c : Dev nD) : (cc0_scratch0 : Ref sig .tc).ty.Contents (Elt F) := k0_pay5 (wstg m ρ c)

/-- One block of the result: a part's rows against the weights, scaled. -/
abbrev BlockShape (p : Part) : Shape := ⟨2, ![rows p, 1024]⟩
def mul : (p : Part) → F .f32 → Vec F (SlotShape p) .fp8e4m3 → Vec F S4096x1024 .fp8e4m3 → Vec F (BlockShape p) .f32
  | 0 => k0_pay6
  | 1 => k0_pay7
  | 2 => k0_pay8
def block (c : Dev nD) (p : Part) (o : Dev nD) : Vec F (BlockShape p) .f32 := mul p (scale m ρ c) (xpart m ρ p o) (weights m ρ c)

/-- The part that row `r` of a device's 512 rows belongs to. -/
def partOf (r : ℕ) : Part := if r < 192 then 0 else if r < 352 then 1 else 2
theorem rows_pos (p : Part) : 0 < rows p := by match p with | 0 | 1 | 2 => decide

/-- An element of a block by natural numbers. -/
def blockAt (c : Dev nD) (p : Part) (o r k : ℕ) : F .f32 :=
  block m ρ c p ⟨o % 8, Nat.mod_lt _ (by decide)⟩ (fun a => match a with | 0 => ⟨r % rows p, Nat.mod_lt _ (rows_pos p)⟩ | 1 => ⟨k % 1024, Nat.mod_lt _ (by decide)⟩)

/-- The result of device `c`: row `512 * o + r` is row `r` of device `o`, against the weights of device `c`. -/
def result (c : Dev nD) : (cc0_stg4_0 : Ref sig .tc).ty.Contents (Elt F) := fun (i : S4096x1024.Idx) =>
  blockAt m ρ c (partOf ((i 0).val % 512)) ((i 0).val / 512) ((i 0).val % 512 - offs (partOf ((i 0).val % 512))) (i 1).val

theorem out_inb (p : Part) (o : Dev nD) : ∀ a : Fin 2, (![512 * o.val + offs p, 0] : Fin 2 → ℕ) a + (BlockShape p).size a ≤ S4096x1024.size a := by
  intro a
  have ho : o.val < 8 := o.isLt
  match a with
  | 1 => show 0 + 1024 ≤ 1024; omega
  | 0 =>
    show 512 * o.val + offs p + rows p ≤ 4096
    have : offs p + rows p ≤ 512 := by match p with | 0 | 1 | 2 => decide
    omega

/-- Where the block of device `o`'s part `p` sits in a result. -/
def outRect (p : Part) (o : Dev nD) : Rect S4096x1024 := Rect.unit (s := S4096x1024) ![512 * o.val + offs p, 0] (BlockShape p).size (out_inb p o)
def outV (p : Part) (o : Dev nD) : View sig .tc .vmem (BlockShape p) .f32 := (Memref.whole cc0_stg4_0 : Memref sig .tc .vmem S4096x1024 .f32).access (outRect p o)

theorem partOf_eq (p : Part) (x : ℕ) (hx : x < rows p) : partOf (offs p + x) = p := by
  match p with
  | 0 => have : x < 192 := hx; show partOf (0 + x) = 0; unfold partOf; rw [if_pos (by omega)]
  | 1 => have : x < 160 := hx; show partOf (192 + x) = 1; unfold partOf; rw [if_neg (by omega), if_pos (by omega)]
  | 2 => have : x < 160 := hx; show partOf (352 + x) = 2; unfold partOf; rw [if_neg (by omega), if_neg (by omega)]

/-- The result read at a block's place is that block. -/
theorem read_result (c : Dev nD) (p : Part) (o : Dev nD) : (outV p o).read (Elt F) (result m ρ c) = block m ρ c p o := by
  funext x
  have h0 : (x 0).val < rows p := (x 0).isLt
  have h1 : (x 1).val < 1024 := (x 1).isLt
  have hs : offs p + rows p ≤ 512 := by match p with | 0 | 1 | 2 => decide
  have ho : o.val < 8 := o.isLt
  show result m ρ c ((outRect p o).emb x) = _
  have e0 : (((outRect p o).emb x) 0).val = 512 * o.val + offs p + (x 0).val := by
    show 512 * o.val + offs p + 1 * (x 0).val = _; omega
  have e1 : (((outRect p o).emb x) 1).val = (x 1).val := by
    show 0 + 1 * (x 1).val = _; omega
  unfold result
  rw [e0, e1, show (512 * o.val + offs p + (x 0).val) % 512 = offs p + (x 0).val by omega, partOf_eq p _ h0,
    show offs p + (x 0).val - offs p = (x 0).val by omega]
  unfold blockAt
  have e2 : (⟨(512 * o.val + offs p + (x 0).val) / 512 % 8, Nat.mod_lt _ (by decide)⟩ : Dev nD) = o := Fin.ext (by show _ / 512 % 8 = _; omega)
  rw [e2]
  congr 1
  funext a
  match a with
  | 0 => exact Fin.ext (Nat.mod_eq_of_lt h0)
  | 1 => exact Fin.ext (Nat.mod_eq_of_lt h1)

/-- Every element of a result lies in some slot's block. -/
theorem out_cover (c : Dev nD) (i : S4096x1024.Idx) : ∃ s : Slot, i ∈ (outV s.1 (orig s.1 s.2 c)).set := by
  have hi : (i 0).val < 4096 := (i 0).isLt
  have hk : (i 1).val < 1024 := (i 1).isLt
  obtain ⟨p, hp⟩ : ∃ p : Part, offs p ≤ (i 0).val % 512 ∧ (i 0).val % 512 < offs p + rows p := by
    have : (i 0).val % 512 < 512 := Nat.mod_lt _ (by decide)
    by_cases h1 : (i 0).val % 512 < 192
    · exact ⟨0, Nat.zero_le _, by show _ < 0 + 192; omega⟩
    · by_cases h2 : (i 0).val % 512 < 352
      · exact ⟨1, by show 192 ≤ _; omega, by show _ < 192 + 160; omega⟩
      · exact ⟨2, by show 352 ≤ _; omega, by show _ < 352 + 160; omega⟩
  obtain ⟨j, hj⟩ := orig_surj p c ⟨(i 0).val / 512, by omega⟩
  refine ⟨(p, j), ?_⟩
  rw [hj]
  refine Finset.mem_map.mpr ⟨fun a => match a with | 0 => ⟨(i 0).val % 512 - offs p, ?_⟩ | 1 => ⟨(i 1).val, hk⟩, Finset.mem_univ _, ?_⟩
  · show _ < rows p; omega
  · funext a
    match a with
    | 0 => refine Fin.ext ?_; show 512 * ((i 0).val / 512) + offs p + 1 * ((i 0).val % 512 - offs p) = (i 0).val; omega
    | 1 => refine Fin.ext ?_; show 0 + 1 * (i 1).val = (i 1).val; omega

/-! ## The cells, and what everyone knows of them -/

/-- A device's cells: the barrier, the leavings, the landings. -/
abbrev Cell : Type := Option (Xfer ⊕ Xfer)
abbrev csem : Cell → SemLoc sig
  | none => .reg barSem
  | some (.inl t) => .dma (sendSem t)
  | some (.inr t) => .dma (recvSem t)
abbrev kcell (ck : Dev nD × Cell) : GSem nD τ sig := ((ck.1 : Thread nD τ), csem ck.2)

theorem all_elim {A : Type} [Fintype A] [DecidableEq A] (Φ : A → sProp 𝕄) (a : A) : bigSep Finset.univ Φ ⊢ Φ a := bigSep_elim (Finset.mem_univ a)

/-- The invariant of every cell of every device, under the names `K`; that every cell is in its first round; and the
    levels. -/
def records (K : Dev nD × Cell → ℕ) : sProp 𝕄 :=
  iprop(levAts L lv ∗ bigSep Finset.univ (fun ck : Dev nD × Cell => cellInv ER (Rd m ρ) (K ck) (kcell ck))
    ∗ bigSep Finset.univ (fun ck : Dev nD × Cell => reached ER (kcell ck) 0))

instance records_persistent (K : Dev nD × Cell → ℕ) : BI.Persistent (records m ρ K) := by unfold records; infer_instance

theorem records_inv (K : Dev nD × Cell → ℕ) (ck : Dev nD × Cell) : records m ρ K ⊢ cellInv ER (Rd m ρ) (K ck) (kcell ck) := by
  unfold records; iintro ⟨-, H, -⟩; iapply (all_elim _ ck) $$ H
theorem records_reached (K : Dev nD × Cell → ℕ) (ck : Dev nD × Cell) : records m ρ K ⊢ reached ER (kcell ck) 0 := by
  unfold records; iintro ⟨-, -, H⟩; iapply (all_elim _ ck) $$ H
theorem records_lev (K : Dev nD × Cell → ℕ) : records m ρ K ⊢ levAts L lv := by
  unfold records; iintro ⟨H, -, -⟩; iexact H

/-! ## The state before step `k` -/

/-- Of a transfer to send: the two duties and the slot to fill; once started, the right to wait for its leaving; and
    once it has left, the share it borrowed. -/
def sendSide (c : Dev nD) (k : ℕ) (t : Xfer) : sProp 𝕄 :=
  if sendAt t < k then
    if leftAt t < k then iprop(atPos ER (sendCell c t) 1 ∅ 0 ∗ sendPay m ρ c t)
    else iprop(cred (tallyAt (sendCell c t) () (N t.1)) ∗ atPos ER (sendCell c t) 0 ∅ 0)
  else iprop(dutyTok ER (sendCell c t) 0 (0 : Fin 3) ∗ dutyTok ER (recvCell (peer t c) t) 0 (0 : Fin 3) ∗ slotAny (peer t c) t.1 (dstSlot t.2)
    ∗ atPos ER (sendCell c t) 0 ∅ 0)

/-- Of a transfer to receive: the right to wait for its landing, until that is done. -/
def recvSide (c : Dev nD) (k : ℕ) (t : Xfer) : sProp 𝕄 :=
  if recvAt t < k then atPos ER (recvCell c t) 1 ∅ 0
  else iprop(cred (tallyAt (recvCell c t) () (N t.1)) ∗ atPos ER (recvCell c t) 0 ∅ 0)

/-- Of a slot: nothing of those lent out to be filled, slot 0 until its rows are filed; then what is kept of it. -/
def slotSide (c : Dev nD) (k : ℕ) (s : Slot) : sProp 𝕄 :=
  if haveAt s < k then slotHas m ρ c s.1 s.2 (kept (lentBy k s)) (orig s.1 s.2 c)
  else if s.2 = 0 then slotAny c s.1 s.2 else iprop(emp)

/-- The copy of the weights. -/
def weightSide (c : Dev nD) (k : ℕ) : sProp 𝕄 :=
  if weightsAt < k then iprop((c : Thread nD τ).loc cc0_scratch0 ↦{fullShare} weights m ρ c)
  else iprop(∃ f : Buf (Elt F) ((c : Thread nD τ).loc cc0_scratch0), ((c : Thread nD τ).loc cc0_scratch0 ↦{fullShare} f))

/-- The blocks of the result written before step `k` are right. -/
def Written (c : Dev nD) (k : ℕ) (f : (cc0_stg4_0 : Ref sig .tc).ty.Contents (Elt F)) : Prop :=
  ∀ s : Slot, mulAt s < k → ∀ i ∈ (outV s.1 (orig s.1 s.2 c)).set, f i = result m ρ c i
def outSide (c : Dev nD) (k : ℕ) : sProp 𝕄 :=
  iprop(∃ f : Buf (Elt F) ((c : Thread nD τ).loc cc0_stg4_0), ⌜Written m ρ c k f⌝ ∗ ((c : Thread nD τ).loc cc0_stg4_0 ↦{fullShare} f))

/-- The arguments' staging buffers, which no step changes. -/
def args (c : Dev nD) : sProp 𝕄 :=
  iprop(((c : Thread nD τ).loc cc0_stg0_0 ↦{fullShare} xstg m ρ c) ∗ ((c : Thread nD τ).loc cc0_stg1_0 ↦{fullShare} wstg m ρ c)
    ∗ ((c : Thread nD τ).loc cc0_stg2_0 ↦{fullShare} sxstg m ρ c) ∗ ((c : Thread nD τ).loc cc0_stg3_0 ↦{fullShare} swstg m ρ c))

def debts (c : Dev nD) (k : ℕ) : sProp 𝕄 := iprop(∃ W : Waits sig Unit, owes (c : Thread nD τ) (owed c k) W)

/-- All of it. -/
def On (K : Dev nD × Cell → ℕ) (c : Dev nD) (k : ℕ) : sProp 𝕄 :=
  iprop(records m ρ K ∗ bigSep Finset.univ (sendSide m ρ c k) ∗ bigSep Finset.univ (recvSide (F := F) c k) ∗ bigSep Finset.univ (slotSide m ρ c k)
    ∗ debts c k ∗ weightSide m ρ c k ∗ outSide m ρ c k ∗ args m ρ c ∗ atPos ER (barCell c) 1 ∅ 0)

/-! ## What a step leaves alone -/

section Same
variable (c : Dev nD) (k : ℕ)

theorem lt_succ_iff {a k : ℕ} (h : a ≠ k) : a < k + 1 ↔ a < k := by omega

theorem sendSide_succ (t : Xfer) (h : sendAt t ≠ k) (h' : leftAt t ≠ k) : sendSide m ρ c (k + 1) t = sendSide m ρ c k t := by
  unfold sendSide; simp only [lt_succ_iff h, lt_succ_iff h']
theorem recvSide_succ (t : Xfer) (h : recvAt t ≠ k) : recvSide (F := F) c (k + 1) t = recvSide c k t := by
  unfold recvSide; simp only [lt_succ_iff h]
theorem slotSide_succ (s : Slot) (h : haveAt s ≠ k) (h' : lentBy (k + 1) s = lentBy k s) : slotSide m ρ c (k + 1) s = slotSide m ρ c k s := by
  unfold slotSide; simp only [lt_succ_iff h, h']
theorem weightSide_succ (h : weightsAt ≠ k) : weightSide m ρ c (k + 1) = weightSide m ρ c k := by
  unfold weightSide; simp only [lt_succ_iff h]
theorem outSide_succ (h : ∀ s, mulAt s ≠ k) : outSide m ρ c (k + 1) = outSide m ρ c k := by
  unfold outSide Written; simp only [fun s => lt_succ_iff (h s)]
theorem debts_succ (h : ∀ t, sendAt t ≠ k) : debts (F := F) c (k + 1) = debts c k := by
  unfold debts; rw [owed_succ c k h]

theorem sends_succ (h : ∀ t, sendAt t ≠ k ∧ leftAt t ≠ k) : bigSep Finset.univ (sendSide m ρ c (k + 1)) = bigSep Finset.univ (sendSide m ρ c k) :=
  bigSep_congr fun t _ => sendSide_succ m ρ c k t (h t).1 (h t).2
theorem recvs_succ (h : ∀ t, recvAt t ≠ k) : bigSep Finset.univ (recvSide (F := F) c (k + 1)) = bigSep Finset.univ (recvSide c k) :=
  bigSep_congr fun t _ => recvSide_succ c k t (h t)
theorem slots_succ (h : ∀ s, haveAt s ≠ k) (h' : ∀ t, sendAt t ≠ k) : bigSep Finset.univ (slotSide m ρ c (k + 1)) = bigSep Finset.univ (slotSide m ρ c k) :=
  bigSep_congr fun s _ => slotSide_succ m ρ c k s (h s) (lentBy_succ k h' s)

end Same

/-- One summand of a finite separating conjunction out, and its successor back in. -/
theorem focus {A : Type} [Fintype A] [DecidableEq A] (a : A) (Φ Ψ : A → sProp 𝕄) (h : ∀ b, b ≠ a → Ψ b = Φ b) :
    bigSep Finset.univ Φ ⊢ iprop(Φ a ∗ (Ψ a -∗ bigSep Finset.univ Ψ)) := by
  rw [bigSep_univ_at Φ a, bigSep_univ_at Ψ a, bigSep_congr (Φ := Ψ) (Ψ := Φ) fun b hb => h b (Finset.ne_of_mem_erase hb)]
  iintro ⟨H, Hr⟩
  isplitl [H]; · iexact H
  iintro H'
  isplitl [H']; · iexact H'
  iexact Hr

end Cert.KernelIdeal.Exchange
-- ==== Proof.KernelIdeal.Steps.lean ====
/-
One rule per kind of step of the program: from what a device holds before the step (`On K c k`) to what it holds after.
Each rule has the form "if the rest of the program runs from the state after, the step and the rest run from the state
before". The memory references, semaphores and devices of a step are free in its rule, with an equation that names them.
-/
module

public import proofs.«01_k».proof.Proof.KernelIdeal.State
public import Idealize.ShloMosaic.Lib.ViewIndex

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

/-- What a device may hold. -/
abbrev Prp (F : FTy → Type) [FloatOps F] : Type := sProp (MT nD τ sig Unit (Elt F) ℕ UU ℕ)
/-- What may be asked of a program's result. -/
abbrev Post (F : FTy → Type) [FloatOps F] (α : Type) : Type := α → sProp (MT nD τ sig Unit (Elt F) ℕ UU ℕ)

/-- Device `c` runs a program to an end that meets `Q`. -/
abbrev runs (c : Dev nD) {α : Type} (prog : Prog (TpuEff nD τ sig (Elt F) Λ₀ .tc) α) (Q : Post F α) : sProp 𝕄 :=
  wp frame (wpE (defs₀ (F := F)) 𝒱₀ (c : Thread nD τ) none) Set.univ prog Q

variable {m ρ K c}
variable {α : Type} {Q : Post F α} {k : ℕ}

theorem step_ret {a : α} {P : sProp 𝕄} (h : P ⊢ Q a) : P ⊢ runs c (.ret a) Q := by
  unfold runs; rw [wp_ret]
  iintro H; imodintro; iapply h; iexact H

/-! ## Loads that change nothing -/

section Nine
variable (P₀ P₁ P₂ P₃ P₄ P₅ P₆ P₇ P₈ P₁' P₂' P₃' P₄' P₅' P₆' P₇' : Prp F)

/-- Nine assertions: some of them out, and others in their place. -/
theorem nine_3 : iprop(P₀ ∗ P₁ ∗ P₂ ∗ P₃ ∗ P₄ ∗ P₅ ∗ P₆ ∗ P₇ ∗ P₈) ⊢ iprop(P₃ ∗ (P₃' -∗ iprop(P₀ ∗ P₁ ∗ P₂ ∗ P₃' ∗ P₄ ∗ P₅ ∗ P₆ ∗ P₇ ∗ P₈))) := by
  iintro ⟨H0, H1, H2, H3, H4, H5, H6, H7, H8⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem nine_567 : iprop(P₀ ∗ P₁ ∗ P₂ ∗ P₃ ∗ P₄ ∗ P₅ ∗ P₆ ∗ P₇ ∗ P₈)
    ⊢ iprop((P₅ ∗ P₆ ∗ P₇) ∗ ((P₅' ∗ P₆' ∗ P₇') -∗ iprop(P₀ ∗ P₁ ∗ P₂ ∗ P₃ ∗ P₄ ∗ P₅' ∗ P₆' ∗ P₇' ∗ P₈))) := by
  iintro ⟨H0, H1, H2, H3, H4, H5, H6, H7, H8⟩
  isplitl [H5 H6 H7]
  · isplitl [H5]; · iexact H5
    isplitl [H6]; · iexact H6
    iexact H7
  iintro ⟨H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem nine_1234 [BI.Persistent P₀] : iprop(P₀ ∗ P₁ ∗ P₂ ∗ P₃ ∗ P₄ ∗ P₅ ∗ P₆ ∗ P₇ ∗ P₈)
    ⊢ iprop((P₀ ∗ P₁ ∗ P₂ ∗ P₃ ∗ P₄) ∗ ((P₁' ∗ P₂' ∗ P₃' ∗ P₄') -∗ iprop(P₀ ∗ P₁' ∗ P₂' ∗ P₃' ∗ P₄' ∗ P₅ ∗ P₆ ∗ P₇ ∗ P₈))) := by
  iintro ⟨#H0, H1, H2, H3, H4, H5, H6, H7, H8⟩
  isplitl [H1 H2 H3 H4]
  · isplitr; · iexact H0
    isplitl [H1]; · iexact H1
    isplitl [H2]; · iexact H2
    isplitl [H3]; · iexact H3
    iexact H4
  iintro ⟨H1, H2, H3, H4⟩
  isplitr; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Nine

/-- What the loads and stores need of the state, out and back. -/
theorem On.data_out : On m ρ K c k ⊢ iprop((weightSide m ρ c k ∗ outSide m ρ c k ∗ args m ρ c)
    ∗ ((weightSide m ρ c k ∗ outSide m ρ c k ∗ args m ρ c) -∗ On m ρ K c k)) := by
  unfold On; exact nine_567 _ _ _ _ _ _ _ _ _ _ _ _
theorem On.args_out : On m ρ K c k ⊢ iprop((((c : Thread nD τ).loc cc0_stg0_0 ↦{fullShare} xstg m ρ c) ∗ ((c : Thread nD τ).loc cc0_stg1_0 ↦{fullShare} wstg m ρ c)
    ∗ ((c : Thread nD τ).loc cc0_stg2_0 ↦{fullShare} sxstg m ρ c) ∗ ((c : Thread nD τ).loc cc0_stg3_0 ↦{fullShare} swstg m ρ c))
    ∗ ((((c : Thread nD τ).loc cc0_stg0_0 ↦{fullShare} xstg m ρ c) ∗ ((c : Thread nD τ).loc cc0_stg1_0 ↦{fullShare} wstg m ρ c)
    ∗ ((c : Thread nD τ).loc cc0_stg2_0 ↦{fullShare} sxstg m ρ c) ∗ ((c : Thread nD τ).loc cc0_stg3_0 ↦{fullShare} swstg m ρ c)) -∗ On m ρ K c k)) := by
  have h := On.data_out (m := m) (ρ := ρ) (K := K) (c := c) (k := k)
  unfold args at h
  iintro H
  ihave H := h $$ H
  icases H with ⟨⟨Hw, Ho, Ha⟩, Hk⟩
  isplitl [Ha]; · iexact Ha
  iintro Ha
  iapply Hk
  isplitl [Hw]; · iexact Hw
  isplitl [Ho]; · iexact Ho
  iexact Ha
theorem On.weight_out : On m ρ K c k ⊢ iprop(weightSide m ρ c k ∗ (weightSide m ρ c k -∗ On m ρ K c k)) := by
  iintro H
  ihave H := (On.data_out (m := m) (ρ := ρ) (K := K) (c := c) (k := k)) $$ H
  icases H with ⟨⟨Hw, Ho, Ha⟩, Hk⟩
  isplitl [Hw]; · iexact Hw
  iintro Hw
  iapply Hk
  isplitl [Hw]; · iexact Hw
  isplitl [Ho]; · iexact Ho
  iexact Ha
theorem On.out_out : On m ρ K c k ⊢ iprop(outSide m ρ c k ∗ (outSide m ρ c k -∗ On m ρ K c k)) := by
  iintro H
  ihave H := (On.data_out (m := m) (ρ := ρ) (K := K) (c := c) (k := k)) $$ H
  icases H with ⟨⟨Hw, Ho, Ha⟩, Hk⟩
  isplitl [Ho]; · iexact Ho
  iintro Ho
  iapply Hk
  isplitl [Hw]; · iexact Hw
  isplitl [Ho]; · iexact Ho
  iexact Ha
theorem On.slots_out : On m ρ K c k ⊢ iprop(bigSep Finset.univ (slotSide m ρ c k) ∗ (bigSep Finset.univ (slotSide m ρ c k) -∗ On m ρ K c k)) := by
  unfold On; exact nine_3 _ _ _ _ _ _ _ _ _ _

/-- A load of the staged rows. -/
theorem step_load_x {r : LoadRect S512x4096} {hl : (Memref.whole cc0_stg0_0 : Memref sig .tc .vmem S512x4096 .fp8e4m3).view.LoadsAt r}
    {kont : (r.shape.Idx → Elt F .fp8e4m3) → Prog (TpuEff nD τ sig (Elt F) Λ₀ .tc) α}
    (next : On m ρ K c k ⊢ runs c (kont ((Memref.whole cc0_stg0_0 : Memref sig .tc .vmem S512x4096 .fp8e4m3).view.readAt (Elt F) r (xstg m ρ c))) Q) :
    On m ρ K c k ⊢ runs c (.op (.load (Memref.whole cc0_stg0_0 : Memref sig .tc .vmem S512x4096 .fp8e4m3) r hl) kont) Q := by
  iintro H
  ihave H' := (On.args_out (m := m) (ρ := ρ) (K := K) (c := c) (k := k)) $$ H
  icases H' with ⟨⟨Hx, Hr⟩, Hk⟩
  iapply (wp_load 𝒱₀ (c : Thread nD τ) none Set.univ (m := (Memref.whole cc0_stg0_0 : Memref sig .tc .vmem S512x4096 .fp8e4m3)) (Finset.subset_univ _)) $$ Hx
  iintro Hx
  iapply next
  iapply Hk
  isplitl [Hx]; · iexact Hx
  iexact Hr

/-- The load of the staged weights. -/
theorem step_load_w {hl : (Memref.whole cc0_stg1_0 : Memref sig .tc .vmem S4096x1024 .fp8e4m3).view.LoadsAt wRect.toLoadRect}
    {kont : (wRect.toLoadRect.shape.Idx → Elt F .fp8e4m3) → Prog (TpuEff nD τ sig (Elt F) Λ₀ .tc) α}
    (next : On m ρ K c k ⊢ runs c (kont (wstg m ρ c)) Q) :
    On m ρ K c k ⊢ runs c (.op (.load (Memref.whole cc0_stg1_0 : Memref sig .tc .vmem S4096x1024 .fp8e4m3) wRect.toLoadRect hl) kont) Q := by
  iintro H
  ihave H' := (On.args_out (m := m) (ρ := ρ) (K := K) (c := c) (k := k)) $$ H
  icases H' with ⟨⟨Hx, Hw, Hr⟩, Hk⟩
  iapply (wp_load 𝒱₀ (c : Thread nD τ) none Set.univ (m := (Memref.whole cc0_stg1_0 : Memref sig .tc .vmem S4096x1024 .fp8e4m3)) (Finset.subset_univ _)) $$ Hw
  rw [show (Memref.whole cc0_stg1_0 : Memref sig .tc .vmem S4096x1024 .fp8e4m3).view.readAt (Elt F) wRect.toLoadRect (wstg m ρ c) = wstg m ρ c
    from Memref.readAt_unit_zero (Elt F) cc0_stg1_0 zero_offs _ _]
  iintro Hw
  iapply next
  iapply Hk
  isplitl [Hx]; · iexact Hx
  isplitl [Hw]; · iexact Hw
  iexact Hr

/-- The two scales, read from scalar memory. -/
theorem step_load_scale_x {hw : ((Memref.whole cc0_stg2_0 : Memref sig .tc .smem S1 .f32).access oneRect).Loads} {x : oneRect.shape.Idx}
    {kont : Elt F .f32 → Prog (TpuEff nD τ sig (Elt F) Λ₀ .tc) α}
    (next : On m ρ K c k ⊢ runs c (kont (((Memref.whole cc0_stg2_0 : Memref sig .tc .smem S1 .f32).access oneRect).read (Elt F) (sxstg m ρ c) x)) Q) :
    On m ρ K c k ⊢ runs c (smemLoadElt (Memref.whole cc0_stg2_0 : Memref sig .tc .smem S1 .f32) oneRect hw x kont) Q := by
  iintro H
  ihave H' := (On.args_out (m := m) (ρ := ρ) (K := K) (c := c) (k := k)) $$ H
  icases H' with ⟨⟨Hx, Hw, Ha, Hb⟩, Hk⟩
  iapply (wp_smemLoadElt 𝒱₀ (c : Thread nD τ) none Set.univ (m := (Memref.whole cc0_stg2_0 : Memref sig .tc .smem S1 .f32)) (r := oneRect) (S := Finset.univ) (q := fullShare) (f := sxstg m ρ c) (Finset.subset_univ _)) $$ Ha
  iintro Ha
  iapply next
  iapply Hk
  isplitl [Hx]; · iexact Hx
  isplitl [Hw]; · iexact Hw
  isplitl [Ha]; · iexact Ha
  iexact Hb

theorem step_load_scale_w {hw : ((Memref.whole cc0_stg3_0 : Memref sig .tc .smem S1 .f32).access oneRect).Loads} {x : oneRect.shape.Idx}
    {kont : Elt F .f32 → Prog (TpuEff nD τ sig (Elt F) Λ₀ .tc) α}
    (next : On m ρ K c k ⊢ runs c (kont (((Memref.whole cc0_stg3_0 : Memref sig .tc .smem S1 .f32).access oneRect).read (Elt F) (swstg m ρ c) x)) Q) :
    On m ρ K c k ⊢ runs c (smemLoadElt (Memref.whole cc0_stg3_0 : Memref sig .tc .smem S1 .f32) oneRect hw x kont) Q := by
  iintro H
  ihave H' := (On.args_out (m := m) (ρ := ρ) (K := K) (c := c) (k := k)) $$ H
  icases H' with ⟨⟨Hx, Hw, Ha, Hb⟩, Hk⟩
  iapply (wp_smemLoadElt 𝒱₀ (c : Thread nD τ) none Set.univ (m := (Memref.whole cc0_stg3_0 : Memref sig .tc .smem S1 .f32)) (r := oneRect) (S := Finset.univ) (q := fullShare) (f := swstg m ρ c) (Finset.subset_univ _)) $$ Hb
  iintro Hb
  iapply next
  iapply Hk
  isplitl [Hx]; · iexact Hx
  isplitl [Hw]; · iexact Hw
  isplitl [Ha]; · iexact Ha
  iexact Hb

/-- The assertions about slots, taken apart and put together. -/
theorem slotHas_open {c : Dev nD} {p : Part} {j : Fin 8} {q : PosShare TreeShare} {o : Dev nD} :
    slotHas m ρ c p j q o ⊢ iprop(∃ f : Buf (Elt F) (((bufOf p).access (slotRect p j)).loc (c : Thread nD τ)),
      ⌜((bufOf p).access (slotRect p j)).read (Elt F) f = xpart m ρ p o⌝ ∗ (((bufOf p).access (slotRect p j)).loc (c : Thread nD τ) ↦[((bufOf p).access (slotRect p j)).set]{q} f)) :=
  BI.Entails.refl _
theorem slotHas_mk {c : Dev nD} {p : Part} {j : Fin 8} {q : PosShare TreeShare} {o : Dev nD} (f : Buf (Elt F) (((bufOf p).access (slotRect p j)).loc (c : Thread nD τ)))
    (hf : ((bufOf p).access (slotRect p j)).read (Elt F) f = xpart m ρ p o) : (((bufOf p).access (slotRect p j)).loc (c : Thread nD τ) ↦[((bufOf p).access (slotRect p j)).set]{q} f) ⊢ slotHas m ρ c p j q o := by
  rw [slotHas_eq]
  iintro H
  iexists f
  isplitr; · ipureintro; exact hf
  iexact H
theorem slotAny_open {c : Dev nD} {p : Part} {j : Fin 8} :
    slotAny (F := F) c p j ⊢ iprop(∃ f : Buf (Elt F) (((bufOf p).access (slotRect p j)).loc (c : Thread nD τ)), (((bufOf p).access (slotRect p j)).loc (c : Thread nD τ) ↦[((bufOf p).access (slotRect p j)).set]{fullShare} f)) :=
  BI.Entails.refl _
theorem slotAny_mk {c : Dev nD} {p : Part} {j : Fin 8} (f : Buf (Elt F) (((bufOf p).access (slotRect p j)).loc (c : Thread nD τ))) :
    (((bufOf p).access (slotRect p j)).loc (c : Thread nD τ) ↦[((bufOf p).access (slotRect p j)).set]{fullShare} f) ⊢ slotAny (F := F) c p j := by
  unfold slotAny
  iintro H
  iexists f
  iexact H

/-- A slot that holds rows: it, out of all slots and back. -/
theorem slots_have (p : Part) (j : Fin 8) (hk : haveAt (p, j) < k) :
    bigSep Finset.univ (slotSide m ρ c k) ⊢ iprop(slotHas m ρ c p j (kept (lentBy k (p, j))) (orig p j c)
      ∗ (slotHas m ρ c p j (kept (lentBy k (p, j))) (orig p j c) -∗ bigSep Finset.univ (slotSide m ρ c k))) := by
  have e : slotSide m ρ c k (p, j) = slotHas m ρ c p j (kept (lentBy k (p, j))) (orig p j c) := if_pos hk
  have h := focus (p, j) (slotSide m ρ c k) (slotSide m ρ c k) fun _ _ => rfl
  rwa [e] at h

/-- Slot 0 before its rows are filed: the same. -/
theorem slots_blank (p : Part) : bigSep Finset.univ (slotSide m ρ c (fileAt p)) ⊢ iprop(slotAny c p 0 ∗ (slotAny c p 0 -∗ bigSep Finset.univ (slotSide m ρ c (fileAt p)))) := by
  have e : slotSide m ρ c (fileAt p) (p, 0) = slotAny c p 0 := (if_neg (lt_irrefl (fileAt p))).trans (if_pos rfl)
  have h := focus (p, 0) (slotSide m ρ c (fileAt p)) (slotSide m ρ c (fileAt p)) fun _ _ => rfl
  rwa [e] at h

/-- A load of a slot that holds rows reads them. -/
theorem step_load_slot (s : Slot) {p : Part} {j : Fin 8} (hs : s = (p, j)) (hk : haveAt s < k) {hl : (bufOf p).view.LoadsAt (slotRect p j).toLoadRect}
    {kont : ((slotRect p j).toLoadRect.shape.Idx → Elt F .fp8e4m3) → Prog (TpuEff nD τ sig (Elt F) Λ₀ .tc) α}
    (next : On m ρ K c k ⊢ runs c (kont (xpart m ρ p (orig p j c))) Q) :
    On m ρ K c k ⊢ runs c (.op (.load (bufOf p) (slotRect p j).toLoadRect hl) kont) Q := by
  subst hs
  iintro H
  ihave H' := (On.slots_out (m := m) (ρ := ρ) (K := K) (c := c) (k := k)) $$ H
  icases H' with ⟨Hl, Hk⟩
  ihave Hl := (slots_have p j hk) $$ Hl
  icases Hl with ⟨Hs, Hb⟩
  ihave Hs := slotHas_open $$ Hs
  icases Hs with ⟨%f, %hf, Hs⟩
  iapply (wp_load_rect 𝒱₀ (c : Thread nD τ) none Set.univ (m := bufOf p) (r := slotRect p j) (Finset.Subset.refl _)) $$ Hs
  iintro Hs
  rw [hf]
  iapply next
  iapply Hk
  iapply Hb
  iapply (slotHas_mk f hf)
  iexact Hs

/-- A load of slot 0 before its rows are filed reads something. -/
theorem step_peek_slot (p : Part) (hk : k = fileAt p) {hl : (bufOf p).view.LoadsAt (slotRect p 0).toLoadRect}
    {kont : ((slotRect p 0).toLoadRect.shape.Idx → Elt F .fp8e4m3) → Prog (TpuEff nD τ sig (Elt F) Λ₀ .tc) α}
    (next : ∀ v, On m ρ K c k ⊢ runs c (kont v) Q) :
    On m ρ K c k ⊢ runs c (.op (.load (bufOf p) (slotRect p 0).toLoadRect hl) kont) Q := by
  subst hk
  iintro H
  ihave H' := (On.slots_out (m := m) (ρ := ρ) (K := K) (c := c) (k := fileAt p)) $$ H
  icases H' with ⟨Hl, Hk⟩
  ihave Hl := (slots_blank p) $$ Hl
  icases Hl with ⟨Hs, Hb⟩
  ihave Hs := slotAny_open $$ Hs
  icases Hs with ⟨%f, Hs⟩
  iapply (wp_load_rect 𝒱₀ (c : Thread nD τ) none Set.univ (m := bufOf p) (r := slotRect p 0) (Finset.Subset.refl _)) $$ Hs
  iintro Hs
  iapply (next _)
  iapply Hk
  iapply Hb
  iapply (slotAny_mk f)
  iexact Hs

/-- The load of the copy of the weights: something before it is made, the copy after. -/
theorem step_peek_weights (hk : k = weightsAt) {hl : (Memref.whole cc0_scratch0 : Memref sig .tc .vmem S4096x1024 .fp8e4m3).view.LoadsAt wRect.toLoadRect}
    {kont : (wRect.toLoadRect.shape.Idx → Elt F .fp8e4m3) → Prog (TpuEff nD τ sig (Elt F) Λ₀ .tc) α}
    (next : ∀ v, On m ρ K c k ⊢ runs c (kont v) Q) :
    On m ρ K c k ⊢ runs c (.op (.load (Memref.whole cc0_scratch0 : Memref sig .tc .vmem S4096x1024 .fp8e4m3) wRect.toLoadRect hl) kont) Q := by
  iintro H
  ihave H' := (On.weight_out (m := m) (ρ := ρ) (K := K) (c := c) (k := k)) $$ H
  unfold weightSide
  rw [if_neg (by rw [hk]; exact lt_irrefl _)]
  icases H' with ⟨⟨%f, Hw⟩, Hk⟩
  iapply (wp_load 𝒱₀ (c : Thread nD τ) none Set.univ (m := (Memref.whole cc0_scratch0 : Memref sig .tc .vmem S4096x1024 .fp8e4m3)) (Finset.subset_univ _)) $$ Hw
  iintro Hw
  iapply (next _)
  iapply Hk
  iexists f
  iexact Hw

theorem step_load_weights (hk : weightsAt < k) {hl : (Memref.whole cc0_scratch0 : Memref sig .tc .vmem S4096x1024 .fp8e4m3).view.LoadsAt wRect.toLoadRect}
    {kont : (wRect.toLoadRect.shape.Idx → Elt F .fp8e4m3) → Prog (TpuEff nD τ sig (Elt F) Λ₀ .tc) α}
    (next : On m ρ K c k ⊢ runs c (kont (weights m ρ c)) Q) :
    On m ρ K c k ⊢ runs c (.op (.load (Memref.whole cc0_scratch0 : Memref sig .tc .vmem S4096x1024 .fp8e4m3) wRect.toLoadRect hl) kont) Q := by
  iintro H
  ihave H' := (On.weight_out (m := m) (ρ := ρ) (K := K) (c := c) (k := k)) $$ H
  unfold weightSide
  rw [if_pos hk]
  icases H' with ⟨Hw, Hk⟩
  iapply (wp_load 𝒱₀ (c : Thread nD τ) none Set.univ (m := (Memref.whole cc0_scratch0 : Memref sig .tc .vmem S4096x1024 .fp8e4m3)) (Finset.subset_univ _)) $$ Hw
  rw [show (Memref.whole cc0_scratch0 : Memref sig .tc .vmem S4096x1024 .fp8e4m3).view.readAt (Elt F) wRect.toLoadRect (weights m ρ c) = weights m ρ c
    from Memref.readAt_unit_zero (Elt F) cc0_scratch0 zero_offs _ _]
  iintro Hw
  iapply next
  iapply Hk
  iexact Hw

/-- A load of the result reads something. -/
theorem step_peek_out {r : LoadRect S4096x1024} {hl : (Memref.whole cc0_stg4_0 : Memref sig .tc .vmem S4096x1024 .f32).view.LoadsAt r}
    {kont : (r.shape.Idx → Elt F .f32) → Prog (TpuEff nD τ sig (Elt F) Λ₀ .tc) α}
    (next : ∀ v, On m ρ K c k ⊢ runs c (kont v) Q) :
    On m ρ K c k ⊢ runs c (.op (.load (Memref.whole cc0_stg4_0 : Memref sig .tc .vmem S4096x1024 .f32) r hl) kont) Q := by
  iintro H
  ihave H' := (On.out_out (m := m) (ρ := ρ) (K := K) (c := c) (k := k)) $$ H
  unfold outSide
  icases H' with ⟨⟨%f, %hf, Ho⟩, Hk⟩
  iapply (wp_load 𝒱₀ (c : Thread nD τ) none Set.univ (m := (Memref.whole cc0_stg4_0 : Memref sig .tc .vmem S4096x1024 .f32)) (Finset.subset_univ _)) $$ Ho
  iintro Ho
  iapply (next _)
  iapply Hk
  iexists f
  isplitr; · ipureintro; exact hf
  iexact Ho

/-! ## Stores -/

theorem On.slots_move (hs : ∀ t, sendAt t ≠ k ∧ leftAt t ≠ k) (hr : ∀ t, recvAt t ≠ k) (hw : weightsAt ≠ k) (hm : ∀ s, mulAt s ≠ k) :
    On m ρ K c k ⊢ iprop(bigSep Finset.univ (slotSide m ρ c k) ∗ (bigSep Finset.univ (slotSide m ρ c (k + 1)) -∗ On m ρ K c (k + 1))) := by
  unfold On
  rw [sends_succ m ρ c k hs, recvs_succ c k hr, weightSide_succ m ρ c k hw, outSide_succ m ρ c k hm, debts_succ c k fun t => (hs t).1]
  exact nine_3 _ _ _ _ _ _ _ _ _ _

theorem On.data_move (hs : ∀ t, sendAt t ≠ k ∧ leftAt t ≠ k) (hr : ∀ t, recvAt t ≠ k) (hh : ∀ s, haveAt s ≠ k) :
    On m ρ K c k ⊢ iprop((weightSide m ρ c k ∗ outSide m ρ c k ∗ args m ρ c)
      ∗ ((weightSide m ρ c (k + 1) ∗ outSide m ρ c (k + 1) ∗ args m ρ c) -∗ On m ρ K c (k + 1))) := by
  unfold On
  rw [sends_succ m ρ c k hs, recvs_succ c k hr, slots_succ m ρ c k hh fun t => (hs t).1, debts_succ c k fun t => (hs t).1]
  exact nine_567 _ _ _ _ _ _ _ _ _ _ _ _

theorem On.cells_move (hw : weightsAt ≠ k) (hm : ∀ s, mulAt s ≠ k) :
    On m ρ K c k ⊢ iprop((records m ρ K ∗ bigSep Finset.univ (sendSide m ρ c k) ∗ bigSep Finset.univ (recvSide (F := F) c k)
        ∗ bigSep Finset.univ (slotSide m ρ c k) ∗ debts c k)
      ∗ ((bigSep Finset.univ (sendSide m ρ c (k + 1)) ∗ bigSep Finset.univ (recvSide (F := F) c (k + 1))
        ∗ bigSep Finset.univ (slotSide m ρ c (k + 1)) ∗ debts c (k + 1)) -∗ On m ρ K c (k + 1))) := by
  unfold On
  rw [weightSide_succ m ρ c k hw, outSide_succ m ρ c k hm]
  exact nine_1234 _ _ _ _ _ _ _ _ _ _ _ _ _

/-- Slot 0 filed. -/
theorem slots_file (p : Part) : bigSep Finset.univ (slotSide m ρ c (fileAt p)) ⊢ iprop(slotAny c p 0
    ∗ (slotHas m ρ c p 0 fullShare c -∗ bigSep Finset.univ (slotSide m ρ c (fileAt p + 1)))) := by
  have e : slotSide m ρ c (fileAt p) (p, 0) = slotAny c p 0 := (if_neg (lt_irrefl (fileAt p))).trans (if_pos rfl)
  have e' : slotSide m ρ c (fileAt p + 1) (p, 0) = slotHas m ρ c p 0 fullShare c := by
    refine (if_pos (Nat.lt_succ_self (fileAt p))).trans ?_
    have h0 : lentBy (fileAt p + 1) (p, 0) = 0 := lentBy_have (p, 0)
    show slotHas m ρ c p 0 (kept (lentBy (fileAt p + 1) (p, 0))) (orig p 0 c) = _
    rw [h0, orig_zero]; rfl
  have h := focus (p, 0) (slotSide m ρ c (fileAt p)) (slotSide m ρ c (fileAt p + 1)) fun s hs =>
    slotSide_succ m ρ c _ s (fun hh => hs (haveAt_inj s (p, 0) hh)) (lentBy_succ _ (fun t => (file_ne_send p t).symm) s)
  rwa [e, e'] at h

/-- The store of a part's rows into slot 0. -/
theorem step_file (p : Part) (hk : k = fileAt p) {v : (slotRect p 0).shape.Idx → Elt F .fp8e4m3} (hv : v = xpart m ρ p c)
    {hx : ((bufOf p).access (slotRect p 0)).Stores Finset.univ} {hm : (Finset.univ : Finset (slotRect p 0).shape.Idx) = Finset.univ ∨ ∀ a, (slotRect p 0).stride a = 1}
    {kont : PUnit → Prog (TpuEff nD τ sig (Elt F) Λ₀ .tc) α}
    (next : On m ρ K c (k + 1) ⊢ runs c (kont ⟨⟩) Q) :
    On m ρ K c k ⊢ runs c (.op (.store (bufOf p) (slotRect p 0) v Finset.univ hx hm) kont) Q := by
  subst hk hv
  iintro H
  ihave H' := (On.slots_move (m := m) (ρ := ρ) (K := K) (c := c) (k := fileAt p) (fun t => ⟨(file_ne_send p t).symm, (file_ne_left p t).symm⟩)
    (fun t => recv_ne_file t p) (file_ne_weights p).symm fun s => (file_ne_mul p s).symm) $$ H
  icases H' with ⟨Hl, Hk⟩
  ihave Hl := (slots_file p) $$ Hl
  icases Hl with ⟨Hs, Hb⟩
  ihave Hs := slotAny_open $$ Hs
  icases Hs with ⟨%f, Hs⟩
  iapply (wp_store 𝒱₀ (c : Thread nD τ) none Set.univ (m := bufOf p) (r := slotRect p 0) (Mk := Finset.univ)
    (S := ((bufOf p).access (slotRect p 0)).set) (f := f) (by rw [View.setOn_univ])) $$ Hs
  iintro Hs
  iapply next
  iapply Hk
  iapply Hb
  iapply (slotHas_mk _ (View.read_write_univ _ _))
  iexact Hs

/-- The store of the copy of the weights. -/
theorem step_store_weights (hk : k = weightsAt) {v : wRect.shape.Idx → Elt F .fp8e4m3} (hv : v = weights m ρ c)
    {hx : ((Memref.whole cc0_scratch0 : Memref sig .tc .vmem S4096x1024 .fp8e4m3).access wRect).Stores Finset.univ}
    {hm : (Finset.univ : Finset wRect.shape.Idx) = Finset.univ ∨ ∀ a, wRect.stride a = 1}
    {kont : PUnit → Prog (TpuEff nD τ sig (Elt F) Λ₀ .tc) α}
    (next : On m ρ K c (k + 1) ⊢ runs c (kont ⟨⟩) Q) :
    On m ρ K c k ⊢ runs c (.op (.store (Memref.whole cc0_scratch0 : Memref sig .tc .vmem S4096x1024 .fp8e4m3) wRect v Finset.univ hx hm) kont) Q := by
  subst hk hv
  have e0 : weightSide m ρ c weightsAt = iprop(∃ f : Buf (Elt F) ((c : Thread nD τ).loc cc0_scratch0), ((c : Thread nD τ).loc cc0_scratch0 ↦{fullShare} f)) :=
    if_neg (lt_irrefl _)
  have e1 : weightSide m ρ c (weightsAt + 1) = iprop((c : Thread nD τ).loc cc0_scratch0 ↦{fullShare} weights m ρ c) := if_pos (Nat.lt_succ_self _)
  have h := On.data_move (m := m) (ρ := ρ) (K := K) (c := c) (k := weightsAt) (fun t => ⟨send_ne_weights t, left_ne_weights t⟩) recv_ne_weights
    fun s => (weights_ne_have s).symm
  rw [e0, e1, outSide_succ m ρ c weightsAt mul_ne_weights] at h
  iintro H
  ihave H' := h $$ H
  icases H' with ⟨⟨⟨%f, Hw⟩, Ho, Ha⟩, Hk⟩
  iapply (wp_store 𝒱₀ (c : Thread nD τ) none Set.univ (m := (Memref.whole cc0_scratch0 : Memref sig .tc .vmem S4096x1024 .fp8e4m3)) (r := wRect) (Mk := Finset.univ)
    (S := Finset.univ) (f := f) (Finset.subset_univ _)) $$ Hw
  rw [show ((Memref.whole cc0_scratch0 : Memref sig .tc .vmem S4096x1024 .fp8e4m3).access wRect).write (Elt F) f (weights m ρ c) Finset.univ = weights m ρ c
    from Memref.write_access_unit_zero_univ (Elt F) cc0_scratch0 zero_offs _ f _]
  iintro Hw
  iapply next
  iapply Hk
  isplitl [Hw]; · iexact Hw
  isplitl [Ho]; · iexact Ho
  iexact Ha

/-- After the store of one block, the blocks written are right. -/
theorem written_store (s : Slot) (f : (cc0_stg4_0 : Ref sig .tc).ty.Contents (Elt F)) (hf : Written m ρ c (mulAt s) f) :
    Written m ρ c (mulAt s + 1) ((outV s.1 (orig s.1 s.2 c)).write (Elt F) f (block m ρ c s.1 (orig s.1 s.2 c)) Finset.univ) := by
  intro s' hs' i hi
  by_cases h : i ∈ (outV s.1 (orig s.1 s.2 c)).set
  · obtain ⟨x, -, rfl⟩ := Finset.mem_map.mp h
    exact View.eq_of_read_eq (v := outV s.1 (orig s.1 s.2 c)) ((congrFun (View.read_write_univ (v := outV s.1 (orig s.1 s.2 c)) f _) x).trans (congrFun (read_result m ρ c s.1 (orig s.1 s.2 c)) x).symm)
  · refine (View.write_of_not_mem (v := outV s.1 (orig s.1 s.2 c)) f _ _ (by rwa [View.setOn_univ])).trans (hf s' ?_ i hi)
    rcases Nat.lt_succ_iff_lt_or_eq.mp hs' with hlt | heq
    · exact hlt
    · exact absurd hi (by rw [mulAt_inj _ _ heq]; exact h)

/-- The store of one block of the result. -/
theorem step_store_out (s : Slot) (hk : k = mulAt s) {p : Part} {j : Fin 8} (hs : s = (p, j)) {r : Rect S4096x1024} (hr : r = outRect p (orig p j c))
    {v : r.shape.Idx → Elt F .f32} (hv : HEq v (block m ρ c p (orig p j c)))
    {hx : ((Memref.whole cc0_stg4_0 : Memref sig .tc .vmem S4096x1024 .f32).access r).Stores Finset.univ}
    {hm : (Finset.univ : Finset r.shape.Idx) = Finset.univ ∨ ∀ a, r.stride a = 1}
    {kont : PUnit → Prog (TpuEff nD τ sig (Elt F) Λ₀ .tc) α}
    (next : On m ρ K c (k + 1) ⊢ runs c (kont ⟨⟩) Q) :
    On m ρ K c k ⊢ runs c (.op (.store (Memref.whole cc0_stg4_0 : Memref sig .tc .vmem S4096x1024 .f32) r v Finset.univ hx hm) kont) Q := by
  subst hk hs hr
  obtain rfl := eq_of_heq hv
  have h := On.data_move (m := m) (ρ := ρ) (K := K) (c := c) (k := mulAt (p, j)) (fun t => ⟨send_ne_mul t _, (mul_ne_left _ t).symm⟩) (fun t => recv_ne_mul t _)
    fun s => (mul_ne_have _ s).symm
  rw [weightSide_succ m ρ c _ (mul_ne_weights (p, j)).symm] at h
  unfold outSide at h
  iintro H
  ihave H' := h $$ H
  icases H' with ⟨⟨Hw, ⟨%f, %hf, Ho⟩, Ha⟩, Hk⟩
  iapply (wp_store 𝒱₀ (c : Thread nD τ) none Set.univ (m := (Memref.whole cc0_stg4_0 : Memref sig .tc .vmem S4096x1024 .f32)) (r := outRect p (orig p j c)) (Mk := Finset.univ)
    (S := Finset.univ) (f := f) (Finset.subset_univ _)) $$ Ho
  iintro Ho
  iapply next
  iapply Hk
  isplitl [Hw]; · iexact Hw
  isplitl [Ho]
  · iexists ((outV p (orig p j c)).write (Elt F) f (block m ρ c p (orig p j c)) Finset.univ)
    isplitr; · ipureintro; exact written_store (p, j) f hf
    iexact Ho
  iexact Ha

/-! ## Transfers and waits -/

/-- A slot as a transfer sees it. -/
theorem slotHas_sq {c : Dev nD} {p : Part} {j : Fin 8} {q : PosShare TreeShare} {o : Dev nD} :
    slotHas m ρ c p j q o ⊢ iprop(∃ f : Buf (Elt F) ((slotSq p j).view.loc (c : Thread nD τ)),
      ⌜(slotV p j).read (Elt F) f = xpart m ρ p o⌝ ∗ ((slotSq p j).view.loc (c : Thread nD τ) ↦[(slotSq p j).view.set]{q} f)) := by
  rw [slotSq_set]; exact BI.Entails.refl _
theorem slotHas_of_sq {c : Dev nD} {p : Part} {j : Fin 8} {q : PosShare TreeShare} {o : Dev nD} (f : Buf (Elt F) ((slotSq p j).view.loc (c : Thread nD τ)))
    (hf : (slotV p j).read (Elt F) f = xpart m ρ p o) : ((slotSq p j).view.loc (c : Thread nD τ) ↦[(slotSq p j).view.set]{q} f) ⊢ slotHas m ρ c p j q o := by
  rw [slotSq_set]; exact slotHas_mk f hf
theorem slotAny_sq {c : Dev nD} {p : Part} {j : Fin 8} :
    slotAny (F := F) c p j ⊢ iprop(∃ f : Buf (Elt F) ((slotSq p j).view.loc (c : Thread nD τ)),
      ((slotSq p j).view.loc (c : Thread nD τ) ↦[(slotSq p j).view.set]{fullShare} f)) := by
  rw [slotSq_set]; exact BI.Entails.refl _

/-- What a start of transfer `t` changes at the sender. -/
theorem sends_send (t : Xfer) : bigSep Finset.univ (sendSide m ρ c (sendAt t)) ⊢ iprop(
    (dutyTok ER (sendCell c t) 0 (0 : Fin 3) ∗ dutyTok ER (recvCell (peer t c) t) 0 (0 : Fin 3) ∗ slotAny (peer t c) t.1 (dstSlot t.2) ∗ atPos ER (sendCell c t) 0 ∅ 0)
    ∗ ((cred (tallyAt (sendCell c t) () (N t.1)) ∗ atPos ER (sendCell c t) 0 ∅ 0) -∗ bigSep Finset.univ (sendSide m ρ c (sendAt t + 1)))) := by
  have e : sendSide m ρ c (sendAt t) t = iprop(dutyTok ER (sendCell c t) 0 (0 : Fin 3) ∗ dutyTok ER (recvCell (peer t c) t) 0 (0 : Fin 3)
      ∗ slotAny (peer t c) t.1 (dstSlot t.2) ∗ atPos ER (sendCell c t) 0 ∅ 0) := if_neg (lt_irrefl _)
  have e' : sendSide m ρ c (sendAt t + 1) t = iprop(cred (tallyAt (sendCell c t) () (N t.1)) ∗ atPos ER (sendCell c t) 0 ∅ 0) :=
    (if_pos (Nat.lt_succ_self _)).trans (if_neg (by have := send_lt_left t; omega))
  have h := focus t (sendSide m ρ c (sendAt t)) (sendSide m ρ c (sendAt t + 1)) fun t' ht' =>
    sendSide_succ m ρ c _ t' (fun hh => ht' (sendAt_inj _ _ hh)) (send_ne_left t t').symm
  rwa [e, e'] at h

theorem slots_send (t : Xfer) : bigSep Finset.univ (slotSide m ρ c (sendAt t)) ⊢ iprop(
    slotHas m ρ c t.1 (srcSlot t.2) (kept (rank t.2)) (orig t.1 (srcSlot t.2) c)
    ∗ (slotHas m ρ c t.1 (srcSlot t.2) (kept (rank t.2 + 1)) (orig t.1 (srcSlot t.2) c) -∗ bigSep Finset.univ (slotSide m ρ c (sendAt t + 1)))) := by
  have e : slotSide m ρ c (sendAt t) (t.1, srcSlot t.2) = slotHas m ρ c t.1 (srcSlot t.2) (kept (rank t.2)) (orig t.1 (srcSlot t.2) c) :=
    (if_pos (send_after_have t)).trans (by rw [(lentBy_send t).1])
  have e' : slotSide m ρ c (sendAt t + 1) (t.1, srcSlot t.2) = slotHas m ρ c t.1 (srcSlot t.2) (kept (rank t.2 + 1)) (orig t.1 (srcSlot t.2) c) :=
    (if_pos (Nat.lt_succ_of_lt (send_after_have t))).trans (by rw [(lentBy_send t).2])
  have h := focus (t.1, srcSlot t.2) (slotSide m ρ c (sendAt t)) (slotSide m ρ c (sendAt t + 1)) fun s hs =>
    slotSide_succ m ρ c _ s (send_ne_have t s).symm (lentBy_other t s hs)
  rwa [e, e'] at h

/-- The start of a transfer. -/
theorem step_send (t : Xfer) (hk : k = sendAt t) {n : Dev nD} (hn : n = peer t c)
    {src dst : Memref sig .tc .vmem (RowShape t.1) .fp8e4m3} (es : src = slotSq t.1 (srcSlot t.2)) (ed : dst = slotSq t.1 (dstSlot t.2))
    {sS sR : DmaSem sig} (eS : sS = sendSem t) (eR : sR = recvSem t)
    {hsc : dst.view.ref.isScScratch = false} {hsrc : src.view.WordExact} {hdst : dst.view.WordExact}
    {hsem : DmaTarget.Typed .vmem (.dma sR) (.remote (Dev.tc n : Thread nD τ) dst (.dma sS) hsc)}
    {kont : PUnit → Prog (TpuEff nD τ sig (Elt F) Λ₀ .tc) α}
    (next : On m ρ K c (k + 1) ⊢ runs c (kont ⟨⟩) Q) :
    On m ρ K c k ⊢ runs c (.op (.enqueueDma src (.remote (Dev.tc n : Thread nD τ) dst (.dma sS) hsc) (.dma sR) hsrc hdst hsem) kont) Q := by
  subst hk hn es ed eS eR
  iintro H
  ihave H' := (On.cells_move (m := m) (ρ := ρ) (K := K) (c := c) (k := sendAt t) (send_ne_weights t).symm (fun s => (send_ne_mul t s).symm)) $$ H
  icases H' with ⟨⟨#HR, Hs, Hr, Hl, Hd⟩, Hk⟩
  rw [recvs_succ c (sendAt t) fun t' => (send_ne_recv t t').symm]
  ihave Hs := (sends_send t) $$ Hs
  icases Hs with ⟨⟨Ht₁, Ht₂, Hdst, Hat⟩, Hs⟩
  ihave Hl := (slots_send t) $$ Hl
  icases Hl with ⟨Hsrc, Hl⟩
  ihave Hsrc := (slotHas_lend m ρ c t.1 (srcSlot t.2) (rank t.2) (orig t.1 (srcSlot t.2) c)) $$ Hsrc
  icases Hsrc with ⟨Hsrc, Hkeep⟩
  ihave Hsrc := slotHas_sq $$ Hsrc
  icases Hsrc with ⟨%fs, %hfs, Hsrc⟩
  ihave Hdst := slotAny_sq $$ Hdst
  icases Hdst with ⟨%fd, Hdst⟩
  unfold debts
  icases Hd with ⟨%W, Hd⟩
  iapply (Rounds.wp_send_pointsTo 𝒱₀ ER (Rd m ρ) (c : Thread nD τ) none (κ₁ := K (c, some (.inl t))) (κ₂ := K (peer t c, some (.inr t)))
    (sS := .dma (sendSem t)) (sem := .dma (recvSem t)) (r₁ := 0) (r₂ := 0) (d₁ := (0 : Fin 3)) (d₂ := (0 : Fin 3)) (fs := fs) (fd := fd) (q := lend (rank t.2))
    (by rw [duties_send]; exact Finset.mem_singleton_self _) (by rw [duties_recv]; exact Finset.mem_singleton_self _)
    () () (N t.1) (N_eq t.1 (dstSlot t.2)) (amount_send m ρ c t 0) (amount_recv m ρ (peer t c) t 0) (owed c (sendAt t + 1)) (owed_send c t) (W := W)
    (by rw [payload_send]; exact slotHas_of_sq fs hfs)
    (by rw [payload_recv]; exact slotHas_of_sq _ ((landed t.1 _ _ fs fd).trans (hfs.trans (by rw [orig_dst_peer]))))) $$ [Hsrc Hdst Hd Ht₁ Ht₂]
  · isplitr; · iapply (records_inv m ρ K (c, some (.inl t))); iexact HR
    isplitr; · iapply (records_inv m ρ K (peer t c, some (.inr t))); iexact HR
    isplitl [Hsrc]; · iexact Hsrc
    isplitl [Hdst]; · iexact Hdst
    isplitl [Hd]; · iexact Hd
    isplitl [Ht₁]; · iexact Ht₁
    isplitr; · iapply (records_reached m ρ K (c, some (.inl t))); iexact HR
    isplitl [Ht₂]; · iexact Ht₂
    iapply (records_reached m ρ K (peer t c, some (.inr t))); iexact HR
  iintro ⟨Hc, Hd⟩
  iapply next
  iapply Hk
  isplitl [Hs Hc Hat]
  · iapply Hs
    isplitl [Hc]; · iexact Hc
    iexact Hat
  isplitl [Hr]; · iexact Hr
  isplitl [Hl Hkeep]
  · iapply Hl; iexact Hkeep
  iexists W
  iexact Hd

/-- What a landing changes at the receiver. -/
theorem recvs_recv (t : Xfer) : bigSep Finset.univ (recvSide (F := F) c (recvAt t)) ⊢ iprop(
    (cred (tallyAt (recvCell c t) () (N t.1)) ∗ atPos ER (recvCell c t) 0 ∅ 0)
    ∗ (atPos ER (recvCell c t) 1 ∅ 0 -∗ bigSep Finset.univ (recvSide c (recvAt t + 1)))) := by
  have e : recvSide (F := F) c (recvAt t) t = iprop(cred (tallyAt (recvCell c t) () (N t.1)) ∗ atPos ER (recvCell c t) 0 ∅ 0) := if_neg (lt_irrefl _)
  have e' : recvSide (F := F) c (recvAt t + 1) t = iprop(atPos ER (recvCell c t) 1 ∅ 0) := if_pos (Nat.lt_succ_self _)
  have h := focus t (recvSide (F := F) c (recvAt t)) (recvSide c (recvAt t + 1)) fun t' ht' =>
    recvSide_succ c _ t' fun hh => ht' (recvAt_inj _ _ hh)
  rwa [e, e'] at h

theorem slots_recv (t : Xfer) : bigSep Finset.univ (slotSide m ρ c (recvAt t)) ⊢ iprop(recvPay m ρ c t -∗ bigSep Finset.univ (slotSide m ρ c (recvAt t + 1))) := by
  have hd : haveAt (t.1, dstSlot t.2) = recvAt t := haveAt_dst t.1 t.2
  have e : slotSide m ρ c (recvAt t) (t.1, dstSlot t.2) = iprop(emp) :=
    (if_neg (by rw [hd]; exact lt_irrefl _)).trans (if_neg (Fin.succ_ne_zero t.2))
  have e' : slotSide m ρ c (recvAt t + 1) (t.1, dstSlot t.2) = recvPay m ρ c t := by
    refine (if_pos (by rw [hd]; exact Nat.lt_succ_self _)).trans ?_
    rw [← hd, lentBy_have]; rfl
  have h := focus (t.1, dstSlot t.2) (slotSide m ρ c (recvAt t)) (slotSide m ρ c (recvAt t + 1)) fun s hs =>
    slotSide_succ m ρ c _ s (fun hh => hs (haveAt_inj _ _ (hh.trans hd.symm))) (lentBy_succ _ (fun t' => send_ne_recv t' t) s)
  rw [e, e'] at h
  iintro H
  ihave H := h $$ H
  icases H with ⟨-, H⟩
  iexact H

/-- The wait for a landing. -/
theorem step_recv (t : Xfer) (hk : k = recvAt t) {q : DmaSem sig} (hq : q = recvSem t)
    {s s' : Shape} {e : EltTy} {src : Memref sig .tc .vmem s e} {dst : Memref sig .tc .vmem s' e} (hd : dst.view.dmaCredit = N t.1)
    {hsrc : src.view.WordExact} {hdst : dst.view.WordExact} {kont : PUnit → Prog (TpuEff nD τ sig (Elt F) Λ₀ .tc) α}
    (next : On m ρ K c (k + 1) ⊢ runs c (kont ⟨⟩) Q) :
    On m ρ K c k ⊢ runs c (.op (.waitDma2 q src dst hsrc hdst) kont) Q := by
  subst hk hq
  iintro H
  ihave H' := (On.cells_move (m := m) (ρ := ρ) (K := K) (c := c) (k := recvAt t) (recv_ne_weights t).symm (fun s => (recv_ne_mul t s).symm)) $$ H
  icases H' with ⟨⟨#HR, Hs, Hr, Hl, Hd⟩, Hk⟩
  rw [sends_succ m ρ c (recvAt t) fun t' => ⟨send_ne_recv t' t, (recv_ne_left t t').symm⟩]
  ihave Hr := (recvs_recv t) $$ Hr
  icases Hr with ⟨⟨Hc, Hat⟩, Hr⟩
  ihave Hl := (slots_recv t) $$ Hl
  unfold debts
  icases Hd with ⟨%W, Hd⟩
  iapply (Rounds.wp_wait_rest_token 𝒱₀ ER (Rd m ρ) (c : Thread nD τ) none (κ := K (c, some (.inr t)))
      (wpE_waitDma2_eq 𝒱₀ (c : Thread nD τ) none Set.univ) (Set.mem_univ _) () (O := owed c (recvAt t)) (W := W) (R := 0) (m := 0) (T := ∅)
      (by rw [Nat.zero_add, expect_recv, hd])) $$ [Hc Hd Hat]
  · isplitr; · iapply (records_inv m ρ K (c, some (.inr t))); iexact HR
    rw [hd]
    isplitl [Hc]; · iexact Hc
    isplitl [Hd]; · iexact Hd
    isplitr
    · iapply (mayWait_recv c t); iapply (records_lev m ρ K); iexact HR
    iexact Hat
  iintro ⟨Hd, Hat, -, Hpay⟩
  ihave Hpay := (Entails.of_eq (rest_recv m ρ c t)) $$ Hpay
  iapply next
  iapply Hk
  isplitl [Hs]; · iexact Hs
  isplitl [Hr Hat]
  · iapply Hr; iexact Hat
  isplitl [Hl Hpay]
  · iapply Hl; iexact Hpay
  rw [owed_succ c (recvAt t) fun t' => send_ne_recv t' t]
  iexists (insert (SemLoc.dma (recvSem t), ()) W)
  iexact Hd

/-- What a leaving changes at the sender. -/
theorem sends_left (t : Xfer) : bigSep Finset.univ (sendSide m ρ c (leftAt t)) ⊢ iprop(
    (cred (tallyAt (sendCell c t) () (N t.1)) ∗ atPos ER (sendCell c t) 0 ∅ 0)
    ∗ ((atPos ER (sendCell c t) 1 ∅ 0 ∗ sendPay m ρ c t) -∗ bigSep Finset.univ (sendSide m ρ c (leftAt t + 1)))) := by
  have e : sendSide m ρ c (leftAt t) t = iprop(cred (tallyAt (sendCell c t) () (N t.1)) ∗ atPos ER (sendCell c t) 0 ∅ 0) :=
    (if_pos (send_lt_left t)).trans (if_neg (lt_irrefl _))
  have e' : sendSide m ρ c (leftAt t + 1) t = iprop(atPos ER (sendCell c t) 1 ∅ 0 ∗ sendPay m ρ c t) :=
    (if_pos (Nat.lt_succ_of_lt (send_lt_left t))).trans (if_pos (Nat.lt_succ_self _))
  have h := focus t (sendSide m ρ c (leftAt t)) (sendSide m ρ c (leftAt t + 1)) fun t' ht' =>
    sendSide_succ m ρ c _ t' (send_ne_left t' t) fun hh => ht' (leftAt_inj _ _ hh)
  rwa [e, e'] at h

/-- The wait for a leaving. -/
theorem step_left (t : Xfer) (hk : k = leftAt t) {q : DmaSem sig} (hq : q = sendSem t)
    {s s' : Shape} {e : EltTy} {src : Memref sig .tc .vmem s e} {dst : Memref sig .tc .vmem s' e} (hd : dst.view.dmaCredit = N t.1)
    {hsrc : src.view.WordExact} {hdst : dst.view.WordExact} {kont : PUnit → Prog (TpuEff nD τ sig (Elt F) Λ₀ .tc) α}
    (next : On m ρ K c (k + 1) ⊢ runs c (kont ⟨⟩) Q) :
    On m ρ K c k ⊢ runs c (.op (.waitDma2 q src dst hsrc hdst) kont) Q := by
  subst hk hq
  iintro H
  ihave H' := (On.cells_move (m := m) (ρ := ρ) (K := K) (c := c) (k := leftAt t) (left_ne_weights t).symm (fun s => mul_ne_left s t)) $$ H
  icases H' with ⟨⟨#HR, Hs, Hr, Hl, Hd⟩, Hk⟩
  rw [recvs_succ c (leftAt t) fun t' => recv_ne_left t' t, slots_succ m ρ c (leftAt t) (fun s => (left_ne_have t s).symm) fun t' => send_ne_left t' t]
  ihave Hs := (sends_left t) $$ Hs
  icases Hs with ⟨⟨Hc, Hat⟩, Hs⟩
  unfold debts
  icases Hd with ⟨%W, Hd⟩
  iapply (Rounds.wp_wait_rest_token 𝒱₀ ER (Rd m ρ) (c : Thread nD τ) none (κ := K (c, some (.inl t)))
      (wpE_waitDma2_eq 𝒱₀ (c : Thread nD τ) none Set.univ) (Set.mem_univ _) () (O := owed c (leftAt t)) (W := W) (R := 0) (m := 0) (T := ∅)
      (by rw [Nat.zero_add, expect_send, hd])) $$ [Hc Hd Hat]
  · isplitr; · iapply (records_inv m ρ K (c, some (.inl t))); iexact HR
    rw [hd]
    isplitl [Hc]; · iexact Hc
    isplitl [Hd]; · iexact Hd
    isplitr
    · iapply (mayWait_send c t (leftAt t)); iapply (records_lev m ρ K); iexact HR
    iexact Hat
  iintro ⟨Hd, Hat, -, Hpay⟩
  ihave Hpay := (Entails.of_eq (rest_send m ρ c t)) $$ Hpay
  iapply next
  iapply Hk
  isplitl [Hs Hat Hpay]
  · iapply Hs
    isplitl [Hat]; · iexact Hat
    iexact Hpay
  isplitl [Hr]; · iexact Hr
  isplitl [Hl]; · iexact Hl
  rw [owed_succ c (leftAt t) fun t' => send_ne_left t' t]
  iexists (insert (SemLoc.dma (sendSem t), ()) W)
  iexact Hd

end Cert.KernelIdeal.Exchange
-- ==== Proof.KernelIdeal.Parts.lean ====
/-
The parts of the program, one theorem each: from what device `c` holds before the part's first step to what it holds
after its last. Each proof is the list of the part's steps. Where a part hands values on to the next, its theorem says
which: blocks of the result still to be stored; words only used to name places are left free.
-/
module

public import proofs.«01_k».proof.Proof.KernelIdeal.Steps

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Cell → ℕ} {c : Dev nD}

/-- What a part of the body is given first: the call's buffers and semaphores. -/
abbrev Args (β : Type 1) : Type 1 := (arg0 : Memref sig .tc .vmem S512x4096 .fp8e4m3) → arg0.IsWhole → (arg1 : Memref sig .tc .vmem S4096x1024 .fp8e4m3) → arg1.IsWhole → (arg2 : Memref sig .tc .smem S1 .f32) → arg2.IsWhole → (arg3 : Memref sig .tc .smem S1 .f32) → arg3.IsWhole → (arg4 : Memref sig .tc .vmem S4096x1024 .f32) → arg4.IsWhole → (arg5 : Memref sig .tc .vmem S4096x1024 .fp8e4m3) → arg5.IsWhole → (arg6 : Memref sig .tc .vmem S8x192x4096 .fp8e4m3) → arg6.IsWhole → (arg7 : Memref sig .tc .vmem S8x160x4096 .fp8e4m3) → arg7.IsWhole → (arg8 : Memref sig .tc .vmem S8x160x4096 .fp8e4m3) → arg8.IsWhole → (arg9 : DmaSems sig S7) → (arg10 : DmaSems sig S7) → (arg11 : DmaSems sig S7) → (arg12 : DmaSems sig S7) → (arg13 : DmaSems sig S7) → (arg14 : DmaSems sig S7) → β
abbrev given {β : Type 1} (f : Args β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9

/-! ## The places the program computes -/

/-- A device number computed from the own one names the device at the other end of a transfer. -/
theorem to_peer {f : Dev nD → ℕ} {t : Xfer} {lt : f c < nD} (h : ∀ c : Dev nD, f c = (peer t c).val) : (⟨f c, lt⟩ : Dev nD) = peer t c := Fin.ext (h c)

/-- The rows of the result a multiplication is stored to, computed from the own number. -/
theorem place_head : ∀ (c : Dev nD) (j : Fin 8), k0_off1 c (BitVec.ofNat 32 (word 0 j)) = ![512 * (orig 0 j c).val + offs 0, 0] := by decide +kernel
theorem place_mid : ∀ (c : Dev nD) (j : Fin 8), k0_off2 c (BitVec.ofNat 32 (word 1 j)) 192#32 = ![512 * (orig 1 j c).val + offs 1, 0] := by decide +kernel
theorem place_tail : ∀ (c : Dev nD) (j : Fin 8), k0_off2 c (BitVec.ofNat 32 (word 2 j)) 352#32 = ![512 * (orig 2 j c).val + offs 2, 0] := by decide +kernel
theorem at_place {p : Part} {o : Dev nD} {a : Fin 2 → ℕ} {h : ∀ i, a i + (BlockShape p).size i ≤ S4096x1024.size i} (e : a = ![512 * o.val + offs p, 0]) :
    Rect.unit (s := S4096x1024) a (BlockShape p).size h = outRect p o := by subst e; rfl

/-! ## Steps taken together -/

section Seq
variable {α β : Type} {Q : Post F β} {k : ℕ}

/-- A program that begins with another. -/
theorem runs_bind {P : Prp F} {prog : Prog (TpuEff nD τ sig (Elt F) Λ₀ .tc) α} {kont : α → Prog (TpuEff nD τ sig (Elt F) Λ₀ .tc) β}
    (h : P ⊢ runs c prog (fun a => runs c (kont a) Q)) : P ⊢ runs c (prog >>= kont) Q := by
  unfold runs at *; rw [wp_bind]; exact h

/-- A multiplication: a slot and the weights are read, and their block of the result is written. -/
theorem step_mul (s : Slot) (hk : k = mulAt s) {p : Part} {j : Fin 8} (hs : s = (p, j)) {r : Rect S4096x1024} (hr : r = outRect p (orig p j c))
    {pay : ((slotRect p j).toLoadRect.shape.Idx → Elt F .fp8e4m3) → (wRect.toLoadRect.shape.Idx → Elt F .fp8e4m3) → r.shape.Idx → Elt F .f32}
    (hv : HEq (pay (xpart m ρ p (orig p j c)) (weights m ρ c)) (block m ρ c p (orig p j c)))
    {hl : (bufOf p).view.LoadsAt (slotRect p j).toLoadRect} {hl' : (Memref.whole cc0_scratch0 : Memref sig .tc .vmem S4096x1024 .fp8e4m3).view.LoadsAt wRect.toLoadRect}
    {hl'' : (Memref.whole cc0_stg4_0 : Memref sig .tc .vmem S4096x1024 .f32).view.LoadsAt r.toLoadRect}
    {hx : ((Memref.whole cc0_stg4_0 : Memref sig .tc .vmem S4096x1024 .f32).access r).Stores Finset.univ}
    {hm : (Finset.univ : Finset r.shape.Idx) = Finset.univ ∨ ∀ a, r.stride a = 1}
    {kont : PUnit → Prog (TpuEff nD τ sig (Elt F) Λ₀ .tc) β}
    (next : On m ρ K c (k + 1) ⊢ runs c (kont ⟨⟩) Q) :
    On m ρ K c k ⊢ runs c (.op (.load (bufOf p) (slotRect p j).toLoadRect hl) fun v =>
      .op (.load (Memref.whole cc0_scratch0 : Memref sig .tc .vmem S4096x1024 .fp8e4m3) wRect.toLoadRect hl') fun w =>
      .op (.load (Memref.whole cc0_stg4_0 : Memref sig .tc .vmem S4096x1024 .f32) r.toLoadRect hl'') fun _ =>
      .op (.store (Memref.whole cc0_stg4_0 : Memref sig .tc .vmem S4096x1024 .f32) r (pay v w) Finset.univ hx hm) kont) Q :=
  step_load_slot s hs (hk ▸ mul_after_have s) <|
  step_load_weights (hk ▸ mul_after_weights s) <|
  step_peek_out fun _ => step_store_out s hk hs hr hv next

end Seq

/-! ## The parts -/

theorem part2 {Q : Post F (Σ' (v26 : BitVec 32) (v27 : BitVec 32) (v28 : BitVec 32) (v29 : BitVec 32) (v30 : BitVec 32) (v31 : BitVec 32) (v32 : BitVec 32) (v33 : BitVec 32) (v34 : BitVec 32) (v35 : BitVec 32) (v36 : BitVec 32) (v52 : BitVec 32), BitVec 32)} (v2 v16 v17 c1_i32_21 : BitVec 32)
    (next : ∀ w0 w1 w2 w3 w4 w5 w6 w7 w8 w9 w10 w11 w12 : BitVec 32, On m ρ K c 2 ⊢ Q ⟨w0, w1, w2, w3, w4, w5, w6, w7, w8, w9, w10, w11, w12⟩) :
    On m ρ K c 0 ⊢ runs c (given (k0_part2 (F := F)) c v2 v16 v17 c1_i32_21) Q := by
  unfold given; simp only [k0_part2_eq_skeleton]; unfold k0_part2_skel
  simp only [Prog.lift, Prog.bind_op, Prog.bind_ret, Prog.pure_eq_ret]
  refine step_load_x ?_
  refine step_peek_slot 0 rfl fun _ => ?_
  refine step_file 0 rfl rfl ?_
  refine step_send (0, 0) rfl (to_peer (f := k0_dev4) (by decide +kernel)) rfl rfl rfl rfl ?_
  exact step_ret (next _ _ _ _ _ _ _ _ _ _ _ _ _)

theorem part3 {Q : Post F PUnit} (v19 v23 v52 c0_i32_51 : BitVec 32)
    (next : On m ρ K c 5 ⊢ Q ⟨⟩) :
    On m ρ K c 2 ⊢ runs c (given (k0_part3 (F := F)) c v19 v23 v52 c0_i32_51) Q := by
  unfold given; simp only [k0_part3_eq_skeleton]; unfold k0_part3_skel
  simp only [Prog.lift, Prog.bind_op, Prog.bind_ret, Prog.pure_eq_ret]
  refine step_send (0, 1) rfl (to_peer (f := k0_dev5) (by decide +kernel)) rfl rfl rfl rfl ?_
  refine step_send (0, 3) rfl (to_peer (f := k0_dev6) (by decide +kernel)) rfl rfl rfl rfl ?_
  refine step_load_x ?_
  refine step_peek_slot 1 rfl fun _ => ?_
  refine step_file 1 rfl rfl ?_
  exact step_ret (next)

theorem part4 {Q : Post F PUnit} (v24 v26 : BitVec 32)
    (next : On m ρ K c 9 ⊢ Q ⟨⟩) :
    On m ρ K c 5 ⊢ runs c (given (k0_part4 (F := F)) c v24 v26) Q := by
  unfold given; simp only [k0_part4_eq_skeleton]; unfold k0_part4_skel
  simp only [Prog.lift, Prog.bind_op, Prog.bind_ret, Prog.pure_eq_ret]
  refine step_send (1, 0) rfl (to_peer (f := k0_dev7) (by decide +kernel)) rfl rfl rfl rfl ?_
  refine step_send (1, 1) rfl (to_peer (f := k0_dev8) (by decide +kernel)) rfl rfl rfl rfl ?_
  refine step_send (1, 3) rfl (to_peer (f := k0_dev9) (by decide +kernel)) rfl rfl rfl rfl ?_
  refine step_load_x ?_
  refine step_peek_slot 2 rfl fun _ => ?_
  refine step_file 2 rfl rfl ?_
  exact step_ret (next)

theorem part5 {Q : Post F PUnit} (v30 v31 v33 : BitVec 32)
    (next : On m ρ K c 11 ⊢ Q ⟨⟩) :
    On m ρ K c 9 ⊢ runs c (given (k0_part5 (F := F)) c v30 v31 v33) Q := by
  unfold given; simp only [k0_part5_eq_skeleton]; unfold k0_part5_skel
  simp only [Prog.lift, Prog.bind_op, Prog.bind_ret, Prog.pure_eq_ret]
  refine step_send (2, 0) rfl (to_peer (f := k0_dev10) (by decide +kernel)) rfl rfl rfl rfl ?_
  refine step_send (2, 1) rfl (to_peer (f := k0_dev11) (by decide +kernel)) rfl rfl rfl rfl ?_
  exact step_ret (next)

theorem part6 {Q : Post F (BitVec 32)} (v2 : BitVec 32)
    (next : ∀ w : BitVec 32, On m ρ K c 15 ⊢ Q w) :
    On m ρ K c 11 ⊢ runs c (given (k0_part6 (F := F)) c v2 (scale m ρ c)) Q := by
  unfold given; simp only [k0_part6_eq_skeleton]; unfold k0_part6_skel
  simp only [Prog.lift, Prog.bind_op, Prog.bind_ret, Prog.pure_eq_ret]
  refine step_send (2, 3) rfl (to_peer (f := k0_dev12) (by decide +kernel)) rfl rfl rfl rfl ?_
  refine step_load_w ?_
  refine step_peek_weights rfl fun _ => ?_
  refine step_store_weights rfl rfl ?_
  refine step_mul (0, 0) rfl rfl (at_place (place_head c 0)) HEq.rfl ?_
  refine step_mul (1, 0) rfl rfl (at_place (place_mid c 0)) HEq.rfl ?_
  exact step_ret (next _)

theorem part7 {Q : Post F PUnit} (v16 v18 v169 : BitVec 32)
    (next : On m ρ K c 18 ⊢ Q ⟨⟩) :
    On m ρ K c 15 ⊢ runs c (given (k0_part7 (F := F)) c (scale m ρ c) v16 v18 v169) Q := by
  unfold given; simp only [k0_part7_eq_skeleton]; unfold k0_part7_skel
  simp only [Prog.lift, Prog.bind_op, Prog.bind_ret, Prog.pure_eq_ret]
  refine step_mul (2, 0) rfl rfl (at_place (place_tail c 0)) HEq.rfl ?_
  refine step_recv (0, 0) rfl rfl (N_eq 0 (dstSlot 0)) ?_
  refine step_send (0, 2) rfl (to_peer (f := k0_dev13) (by decide +kernel)) rfl rfl rfl rfl ?_
  exact step_ret (next)

theorem part8 {Q : Post F PUnit} (v2 v20 v23 : BitVec 32)
    (next : On m ρ K c 20 ⊢ Q ⟨⟩) :
    On m ρ K c 18 ⊢ runs c (given (k0_part8 (F := F)) c v2 (scale m ρ c) v20 v23) Q := by
  unfold given; simp only [k0_part8_eq_skeleton]; unfold k0_part8_skel
  simp only [Prog.lift, Prog.bind_op, Prog.bind_ret, Prog.pure_eq_ret]
  refine step_send (0, 4) rfl (to_peer (f := k0_dev14) (by decide +kernel)) rfl rfl rfl rfl ?_
  refine step_mul (0, 1) rfl rfl (at_place (place_head c 1)) HEq.rfl ?_
  exact step_ret (next)

theorem part9 {Q : Post F (Σ' (v253 : FVec F S160x1024 .f32) (v254 : BitVec 32), BitVec 32)} (v2 v25 v27 : BitVec 32)
    (next : ∀ w w' : BitVec 32, On m ρ K c 23 ⊢ Q ⟨block m ρ c 1 (orig 1 1 c), w, w'⟩) :
    On m ρ K c 20 ⊢ runs c (given (k0_part9 (F := F)) c v2 (scale m ρ c) v25 v27) Q := by
  unfold given; simp only [k0_part9_eq_skeleton]; unfold k0_part9_skel
  simp only [Prog.lift, Prog.bind_op, Prog.bind_ret, Prog.pure_eq_ret]
  refine step_recv (1, 0) rfl rfl (N_eq 1 (dstSlot 0)) ?_
  refine step_send (1, 2) rfl (to_peer (f := k0_dev15) (by decide +kernel)) rfl rfl rfl rfl ?_
  refine step_send (1, 4) rfl (to_peer (f := k0_dev16) (by decide +kernel)) rfl rfl rfl rfl ?_
  refine step_load_slot (1, 1) rfl (by decide) ?_
  refine step_load_weights (by decide) ?_
  exact step_ret (next _ _)

theorem part10 {Q : Post F PUnit} (v30 v32 v34 v254 c192_i32_240 : BitVec 32)
    (next : On m ρ K c 26 ⊢ Q ⟨⟩) :
    On m ρ K c 23 ⊢ runs c (given (k0_part10 (F := F)) c v30 v32 v34 (block m ρ c 1 (orig 1 1 c)) v254 c192_i32_240) Q := by
  unfold given; simp only [k0_part10_eq_skeleton]; unfold k0_part10_skel
  simp only [Prog.lift, Prog.bind_op, Prog.bind_ret, Prog.pure_eq_ret]
  refine step_peek_out fun _ => ?_
  refine step_store_out (1, 1) rfl rfl (at_place (place_mid c 1)) HEq.rfl ?_
  refine step_recv (2, 0) rfl rfl (N_eq 2 (dstSlot 0)) ?_
  refine step_send (2, 2) rfl (to_peer (f := k0_dev17) (by decide +kernel)) rfl rfl rfl rfl ?_
  exact step_ret (next)

theorem part11 {Q : Post F PUnit} (v2 v17 v21 : BitVec 32)
    (next : On m ρ K c 29 ⊢ Q ⟨⟩) :
    On m ρ K c 26 ⊢ runs c (given (k0_part11 (F := F)) c v2 (scale m ρ c) v17 v21) Q := by
  unfold given; simp only [k0_part11_eq_skeleton]; unfold k0_part11_skel
  simp only [Prog.lift, Prog.bind_op, Prog.bind_ret, Prog.pure_eq_ret]
  refine step_send (2, 4) rfl (to_peer (f := k0_dev18) (by decide +kernel)) rfl rfl rfl rfl ?_
  refine step_mul (2, 1) rfl rfl (at_place (place_tail c 1)) HEq.rfl ?_
  refine step_recv (0, 1) rfl rfl (N_eq 0 (dstSlot 1)) ?_
  exact step_ret (next)

theorem part12 {Q : Post F PUnit} (v2 v24 v28 : BitVec 32)
    (next : On m ρ K c 32 ⊢ Q ⟨⟩) :
    On m ρ K c 29 ⊢ runs c (given (k0_part12 (F := F)) c v2 (scale m ρ c) v24 v28) Q := by
  unfold given; simp only [k0_part12_eq_skeleton]; unfold k0_part12_skel
  simp only [Prog.lift, Prog.bind_op, Prog.bind_ret, Prog.pure_eq_ret]
  refine step_send (0, 5) rfl (to_peer (f := k0_dev19) (by decide +kernel)) rfl rfl rfl rfl ?_
  refine step_mul (0, 2) rfl rfl (at_place (place_head c 2)) HEq.rfl ?_
  refine step_recv (1, 1) rfl rfl (N_eq 1 (dstSlot 1)) ?_
  exact step_ret (next)

theorem part13 {Q : Post F PUnit} (v2 v31 v35 : BitVec 32)
    (next : On m ρ K c 35 ⊢ Q ⟨⟩) :
    On m ρ K c 32 ⊢ runs c (given (k0_part13 (F := F)) c v2 (scale m ρ c) v31 v35) Q := by
  unfold given; simp only [k0_part13_eq_skeleton]; unfold k0_part13_skel
  simp only [Prog.lift, Prog.bind_op, Prog.bind_ret, Prog.pure_eq_ret]
  refine step_send (1, 5) rfl (to_peer (f := k0_dev20) (by decide +kernel)) rfl rfl rfl rfl ?_
  refine step_mul (1, 2) rfl rfl (at_place (place_mid c 2)) HEq.rfl ?_
  refine step_recv (2, 1) rfl rfl (N_eq 2 (dstSlot 1)) ?_
  exact step_ret (next)

theorem part14 {Q : Post F (Σ' (v392 : BitVec 32), BitVec 32)} (v2 v18 v22 : BitVec 32)
    (next : ∀ w0 w1 : BitVec 32, On m ρ K c 38 ⊢ Q ⟨w0, w1⟩) :
    On m ρ K c 35 ⊢ runs c (given (k0_part14 (F := F)) c v2 (scale m ρ c) v18 v22) Q := by
  unfold given; simp only [k0_part14_eq_skeleton]; unfold k0_part14_skel
  simp only [Prog.lift, Prog.bind_op, Prog.bind_ret, Prog.pure_eq_ret]
  refine step_send (2, 5) rfl (to_peer (f := k0_dev21) (by decide +kernel)) rfl rfl rfl rfl ?_
  refine step_mul (2, 2) rfl rfl (at_place (place_tail c 2)) HEq.rfl ?_
  refine step_recv (0, 2) rfl rfl (N_eq 0 (dstSlot 2)) ?_
  exact step_ret (next _ _)

theorem part15 {Q : Post F (BitVec 32)} (v2 v25 v392 c0_i32_384 : BitVec 32)
    (next : ∀ w : BitVec 32, On m ρ K c 41 ⊢ Q w) :
    On m ρ K c 38 ⊢ runs c (given (k0_part15 (F := F)) c v2 (scale m ρ c) v25 v392 c0_i32_384) Q := by
  unfold given; simp only [k0_part15_eq_skeleton]; unfold k0_part15_skel
  simp only [Prog.lift, Prog.bind_op, Prog.bind_ret, Prog.pure_eq_ret]
  refine step_send (0, 6) rfl (to_peer (f := k0_dev22) (by decide +kernel)) rfl rfl rfl rfl ?_
  refine step_mul (0, 3) rfl rfl (at_place (place_head c 3)) HEq.rfl ?_
  refine step_recv (1, 2) rfl rfl (N_eq 1 (dstSlot 2)) ?_
  exact step_ret (next _)

theorem part16 {Q : Post F PUnit} (v2 v29 v32 c1_i32_412 : BitVec 32)
    (next : On m ρ K c 44 ⊢ Q ⟨⟩) :
    On m ρ K c 41 ⊢ runs c (given (k0_part16 (F := F)) c v2 (scale m ρ c) v29 v32 c1_i32_412) Q := by
  unfold given; simp only [k0_part16_eq_skeleton]; unfold k0_part16_skel
  simp only [Prog.lift, Prog.bind_op, Prog.bind_ret, Prog.pure_eq_ret]
  refine step_send (1, 6) rfl (to_peer (f := k0_dev23) (by decide +kernel)) rfl rfl rfl rfl ?_
  refine step_mul (1, 3) rfl rfl (at_place (place_mid c 3)) HEq.rfl ?_
  refine step_recv (2, 2) rfl rfl (N_eq 2 (dstSlot 2)) ?_
  exact step_ret (next)

theorem part17 {Q : Post F (BitVec 32)} (v2 v19 v36 : BitVec 32)
    (next : ∀ w : BitVec 32, On m ρ K c 47 ⊢ Q w) :
    On m ρ K c 44 ⊢ runs c (given (k0_part17 (F := F)) c v2 (scale m ρ c) v19 v36) Q := by
  unfold given; simp only [k0_part17_eq_skeleton]; unfold k0_part17_skel
  simp only [Prog.lift, Prog.bind_op, Prog.bind_ret, Prog.pure_eq_ret]
  refine step_send (2, 6) rfl (to_peer (f := k0_dev24) (by decide +kernel)) rfl rfl rfl rfl ?_
  refine step_mul (2, 3) rfl rfl (at_place (place_tail c 3)) HEq.rfl ?_
  refine step_recv (0, 3) rfl rfl (N_eq 0 (dstSlot 3)) ?_
  exact step_ret (next _)

theorem part18 {Q : Post F (FVec F S160x1024 .f32)} (v2 v26 c4_i32_468 : BitVec 32)
    (next : On m ρ K c 49 ⊢ Q (block m ρ c 1 (orig 1 4 c))) :
    On m ρ K c 47 ⊢ runs c (given (k0_part18 (F := F)) c v2 (scale m ρ c) v26 c4_i32_468) Q := by
  unfold given; simp only [k0_part18_eq_skeleton]; unfold k0_part18_skel
  simp only [Prog.lift, Prog.bind_op, Prog.bind_ret, Prog.pure_eq_ret]
  refine step_mul (0, 4) rfl rfl (at_place (place_head c 4)) HEq.rfl ?_
  refine step_recv (1, 3) rfl rfl (N_eq 1 (dstSlot 3)) ?_
  refine step_load_slot (1, 4) rfl (by decide) ?_
  refine step_load_weights (by decide) ?_
  exact step_ret (next)

theorem part19 {Q : Post F PUnit} (v2 v20 v33 : BitVec 32)
    (next : On m ρ K c 52 ⊢ Q ⟨⟩) :
    On m ρ K c 49 ⊢ runs c (given (k0_part19 (F := F)) c v2 (scale m ρ c) v20 v33 (block m ρ c 1 (orig 1 4 c))) Q := by
  unfold given; simp only [k0_part19_eq_skeleton]; unfold k0_part19_skel
  simp only [Prog.lift, Prog.bind_op, Prog.bind_ret, Prog.pure_eq_ret]
  refine step_peek_out fun _ => ?_
  refine step_store_out (1, 4) rfl rfl (at_place (place_mid c 4)) HEq.rfl ?_
  refine step_recv (2, 3) rfl rfl (N_eq 2 (dstSlot 3)) ?_
  refine step_mul (2, 4) rfl rfl (at_place (place_tail c 4)) HEq.rfl ?_
  exact step_ret (next)

theorem part20 {Q : Post F (Σ' (v561 : FVec F S160x1024 .f32) (v562 : BitVec 32), BitVec 32)} (v2 v27 : BitVec 32)
    (next : ∀ w w' : BitVec 32, On m ρ K c 55 ⊢ Q ⟨block m ρ c 1 (orig 1 5 c), w, w'⟩) :
    On m ρ K c 52 ⊢ runs c (given (k0_part20 (F := F)) c v2 (scale m ρ c) v27) Q := by
  unfold given; simp only [k0_part20_eq_skeleton]; unfold k0_part20_skel
  simp only [Prog.lift, Prog.bind_op, Prog.bind_ret, Prog.pure_eq_ret]
  refine step_recv (0, 4) rfl rfl (N_eq 0 (dstSlot 4)) ?_
  refine step_mul (0, 5) rfl rfl (at_place (place_head c 5)) HEq.rfl ?_
  refine step_recv (1, 4) rfl rfl (N_eq 1 (dstSlot 4)) ?_
  refine step_load_slot (1, 5) rfl (by decide) ?_
  refine step_load_weights (by decide) ?_
  exact step_ret (next _ _)

theorem part21 {Q : Post F PUnit} (v2 v21 v34 v562 c192_i32_554 : BitVec 32)
    (next : On m ρ K c 58 ⊢ Q ⟨⟩) :
    On m ρ K c 55 ⊢ runs c (given (k0_part21 (F := F)) c v2 (scale m ρ c) v21 v34 (block m ρ c 1 (orig 1 5 c)) v562 c192_i32_554) Q := by
  unfold given; simp only [k0_part21_eq_skeleton]; unfold k0_part21_skel
  simp only [Prog.lift, Prog.bind_op, Prog.bind_ret, Prog.pure_eq_ret]
  refine step_peek_out fun _ => ?_
  refine step_store_out (1, 5) rfl rfl (at_place (place_mid c 5)) HEq.rfl ?_
  refine step_recv (2, 4) rfl rfl (N_eq 2 (dstSlot 4)) ?_
  refine step_mul (2, 5) rfl rfl (at_place (place_tail c 5)) HEq.rfl ?_
  exact step_ret (next)

theorem part22 {Q : Post F (Σ' (v612 : BitVec 32), FVec F S160x1024 .f32)} (v2 v28 : BitVec 32)
    (next : ∀ w : BitVec 32, On m ρ K c 61 ⊢ Q ⟨w, block m ρ c 1 (orig 1 6 c)⟩) :
    On m ρ K c 58 ⊢ runs c (given (k0_part22 (F := F)) c v2 (scale m ρ c) v28) Q := by
  unfold given; simp only [k0_part22_eq_skeleton]; unfold k0_part22_skel
  simp only [Prog.lift, Prog.bind_op, Prog.bind_ret, Prog.pure_eq_ret]
  refine step_recv (0, 5) rfl rfl (N_eq 0 (dstSlot 5)) ?_
  refine step_mul (0, 6) rfl rfl (at_place (place_head c 6)) HEq.rfl ?_
  refine step_recv (1, 5) rfl rfl (N_eq 1 (dstSlot 5)) ?_
  refine step_load_slot (1, 6) rfl (by decide) ?_
  refine step_load_weights (by decide) ?_
  exact step_ret (next _)

theorem part23 {Q : Post F PUnit} (v2 v22 v35 v612 : BitVec 32)
    (next : On m ρ K c 64 ⊢ Q ⟨⟩) :
    On m ρ K c 61 ⊢ runs c (given (k0_part23 (F := F)) c v2 (scale m ρ c) v22 v35 v612 (block m ρ c 1 (orig 1 6 c))) Q := by
  unfold given; simp only [k0_part23_eq_skeleton]; unfold k0_part23_skel
  simp only [Prog.lift, Prog.bind_op, Prog.bind_ret, Prog.pure_eq_ret]
  refine step_peek_out fun _ => ?_
  refine step_store_out (1, 6) rfl rfl (at_place (place_mid c 6)) HEq.rfl ?_
  refine step_recv (2, 5) rfl rfl (N_eq 2 (dstSlot 5)) ?_
  refine step_mul (2, 6) rfl rfl (at_place (place_tail c 6)) HEq.rfl ?_
  exact step_ret (next)

theorem part24 {Q : Post F (Σ' (v669 : BitVec 32) (v671 : FVec F S160x4096 .fp8e4m3) (v672 : Vec F S4096x1024 .fp8e4m3), FVec F S160x1024 .f32)} (v2 v29 : BitVec 32)
    (next : ∀ w : BitVec 32, On m ρ K c 67 ⊢ Q ⟨w, k0_pay28 (xpart m ρ 1 (orig 1 7 c)), weights m ρ c, constant S160x1024 .f32 0x00000000#32⟩) :
    On m ρ K c 64 ⊢ runs c (given (k0_part24 (F := F)) c v2 (scale m ρ c) v29) Q := by
  unfold given; simp only [k0_part24_eq_skeleton]; unfold k0_part24_skel
  simp only [Prog.lift, Prog.bind_op, Prog.bind_ret, Prog.pure_eq_ret]
  refine step_recv (0, 6) rfl rfl (N_eq 0 (dstSlot 6)) ?_
  refine step_mul (0, 7) rfl rfl (at_place (place_head c 7)) HEq.rfl ?_
  refine step_recv (1, 6) rfl rfl (N_eq 1 (dstSlot 6)) ?_
  refine step_load_slot (1, 7) rfl (by decide) ?_
  refine step_load_weights (by decide) ?_
  exact step_ret (next _)

theorem part25 {Q : Post F PUnit} (v2 v36 v669 : BitVec 32)
    (next : On m ρ K c 70 ⊢ Q ⟨⟩) :
    On m ρ K c 67 ⊢ runs c (given (k0_part25 (F := F)) c v2 (scale m ρ c) v36 v669 (k0_pay28 (xpart m ρ 1 (orig 1 7 c))) (weights m ρ c) (constant S160x1024 .f32 0x00000000#32)) Q := by
  unfold given; simp only [k0_part25_eq_skeleton]; unfold k0_part25_skel
  simp only [Prog.lift, Prog.bind_op, Prog.bind_ret, Prog.pure_eq_ret]
  refine step_peek_out fun _ => ?_
  refine step_store_out (1, 7) rfl rfl (at_place (place_mid c 7)) HEq.rfl ?_
  refine step_recv (2, 6) rfl rfl (N_eq 2 (dstSlot 6)) ?_
  refine step_mul (2, 7) rfl rfl (at_place (place_tail c 7)) HEq.rfl ?_
  exact step_ret (next)

theorem part26 {Q : Post F PUnit}
    (next : On m ρ K c 74 ⊢ Q ⟨⟩) :
    On m ρ K c 70 ⊢ runs c (given (k0_part26 (F := F))) Q := by
  unfold given; simp only [k0_part26_eq_skeleton]; unfold k0_part26_skel
  simp only [Prog.lift, Prog.bind_op, Prog.bind_ret, Prog.pure_eq_ret]
  refine step_left (0, 0) rfl rfl (N_eq 0 (srcSlot 0)) ?_
  refine step_left (0, 1) rfl rfl (N_eq 0 (srcSlot 1)) ?_
  refine step_left (0, 2) rfl rfl (N_eq 0 (srcSlot 2)) ?_
  refine step_left (0, 3) rfl rfl (N_eq 0 (srcSlot 3)) ?_
  exact step_ret (next)

theorem part27 {Q : Post F PUnit}
    (next : On m ρ K c 78 ⊢ Q ⟨⟩) :
    On m ρ K c 74 ⊢ runs c (given (k0_part27 (F := F))) Q := by
  unfold given; simp only [k0_part27_eq_skeleton]; unfold k0_part27_skel
  simp only [Prog.lift, Prog.bind_op, Prog.bind_ret, Prog.pure_eq_ret]
  refine step_left (0, 4) rfl rfl (N_eq 0 (srcSlot 4)) ?_
  refine step_left (0, 5) rfl rfl (N_eq 0 (srcSlot 5)) ?_
  refine step_left (0, 6) rfl rfl (N_eq 0 (srcSlot 6)) ?_
  refine step_left (1, 0) rfl rfl (N_eq 1 (srcSlot 0)) ?_
  exact step_ret (next)

theorem part28 {Q : Post F PUnit}
    (next : On m ρ K c 81 ⊢ Q ⟨⟩) :
    On m ρ K c 78 ⊢ runs c (given (k0_part28 (F := F))) Q := by
  unfold given; simp only [k0_part28_eq_skeleton]; unfold k0_part28_skel
  simp only [Prog.lift, Prog.bind_op, Prog.bind_ret, Prog.pure_eq_ret]
  refine step_left (1, 1) rfl rfl (N_eq 1 (srcSlot 1)) ?_
  refine step_left (1, 2) rfl rfl (N_eq 1 (srcSlot 2)) ?_
  refine step_left (1, 3) rfl rfl (N_eq 1 (srcSlot 3)) ?_
  exact step_ret (next)

theorem part29 {Q : Post F PUnit}
    (next : On m ρ K c 85 ⊢ Q ⟨⟩) :
    On m ρ K c 81 ⊢ runs c (given (k0_part29 (F := F))) Q := by
  unfold given; simp only [k0_part29_eq_skeleton]; unfold k0_part29_skel
  simp only [Prog.lift, Prog.bind_op, Prog.bind_ret, Prog.pure_eq_ret]
  refine step_left (1, 4) rfl rfl (N_eq 1 (srcSlot 4)) ?_
  refine step_left (1, 5) rfl rfl (N_eq 1 (srcSlot 5)) ?_
  refine step_left (1, 6) rfl rfl (N_eq 1 (srcSlot 6)) ?_
  refine step_left (2, 0) rfl rfl (N_eq 2 (srcSlot 0)) ?_
  exact step_ret (next)

theorem part30 {Q : Post F PUnit}
    (next : On m ρ K c 89 ⊢ Q ⟨⟩) :
    On m ρ K c 85 ⊢ runs c (given (k0_part30 (F := F))) Q := by
  unfold given; simp only [k0_part30_eq_skeleton]; unfold k0_part30_skel
  simp only [Prog.lift, Prog.bind_op, Prog.bind_ret, Prog.pure_eq_ret]
  refine step_left (2, 1) rfl rfl (N_eq 2 (srcSlot 1)) ?_
  refine step_left (2, 2) rfl rfl (N_eq 2 (srcSlot 2)) ?_
  refine step_left (2, 3) rfl rfl (N_eq 2 (srcSlot 3)) ?_
  refine step_left (2, 4) rfl rfl (N_eq 2 (srcSlot 4)) ?_
  exact step_ret (next)

end Cert.KernelIdeal.Exchange
-- ==== Proof.KernelIdeal.Begin.lean ====
/-
The program's first part: the devices meet at the barrier. A device signals its three neighbours, handing each the
slots the neighbour will fill here, and waits for their three signals, which hand it the slots it will fill there. From
what a device starts with (`Begin`) to what it holds before its first step (`On _ _ 0`). Generic in the float instance.
-/
module

public import proofs.«01_k».proof.Proof.KernelIdeal.Parts

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

/-! ## Rearranging finite conjunctions -/

theorem bigSep_swap {A B : Type} [Fintype A] [DecidableEq A] [Fintype B] [DecidableEq B] (Φ : A → B → sProp 𝕄) :
    bigSep Finset.univ (fun a => bigSep Finset.univ (Φ a)) = bigSep Finset.univ fun b => bigSep Finset.univ fun a => Φ a b := by
  rw [← bigSep_univ_prod (fun x : A × B => Φ x.1 x.2), ← bigSep_univ_prod (fun x : B × A => Φ x.2 x.1)]
  exact bigSep_univ_equiv (Equiv.prodComm B A) fun x : A × B => Φ x.1 x.2

theorem bigSep_nothing {A : Type} [DecidableEq A] (S : Finset A) : bigSep S (fun _ => (iprop(emp) : sProp 𝕄)) = iprop(emp) := bigSep_emp_const S

theorem bigSep_hop (Φ : Hop → sProp 𝕄) : bigSep Finset.univ Φ = iprop(Φ 0 ∗ Φ 1 ∗ Φ 2) := bigSep_univ_eq_bigSepL [0, 1, 2] (by decide) (by decide) Φ

/-- The transfers sorted by the involution they go across. -/
theorem bigSep_by_hop (Φ : Xfer → sProp 𝕄) :
    bigSep Finset.univ (fun h : Hop => bigSep Finset.univ fun t : Xfer => if hop t = h then Φ t else iprop(emp)) = bigSep Finset.univ Φ := by
  rw [bigSep_swap]
  refine bigSep_congr fun t _ => ?_
  rw [bigSep_univ_at _ (hop t), if_pos rfl, bigSep_congr (Ψ := fun _ => iprop(emp)) fun h hh => if_neg (Finset.ne_of_mem_erase hh).symm, bigSep_nothing]
  exact BI.equiv_iff.mp sep_emp

/-- The slots: of each part slot 0, and those the transfers fill. -/
theorem bigSep_slots (Φ : Slot → sProp 𝕄) :
    bigSep Finset.univ Φ = iprop(bigSep Finset.univ (fun p : Part => Φ (p, 0)) ∗ bigSep Finset.univ fun t : Xfer => Φ (t.1, dstSlot t.2)) := by
  rw [bigSep_univ_prod, bigSep_univ_prod (fun t : Xfer => Φ (t.1, dstSlot t.2)), ← bigSep_sep']
  refine bigSep_congr fun p _ => ?_
  rw [bigSep_univ_at _ (0 : Fin 8), show (Finset.univ : Finset (Fin 8)).erase 0 = Finset.univ.map ⟨Fin.succ, Fin.succ_injective 7⟩ from by decide, bigSep_map]
  rfl

/-! ## What a device starts with -/

/-- Of a transfer to send: the two duties and the place at its leaving. -/
def toSend (t : Xfer) : sProp 𝕄 :=
  iprop(dutyTok ER (sendCell c t) 0 (0 : Fin 3) ∗ dutyTok ER (recvCell (peer t c) t) 0 (0 : Fin 3) ∗ atPos ER (sendCell c t) 0 ∅ 0)

def Begin : sProp 𝕄 :=
  iprop(records m ρ K ∗ bigSep Finset.univ (toSend (F := F) c) ∗ bigSep Finset.univ (recvSide (F := F) c 0)
    ∗ bigSep Finset.univ (fun h : Hop => (dutyTok ER (barCell (flip h c)) 0 h : sProp 𝕄)) ∗ (cred (tallyAt (barCell c) () 3) ∗ atPos ER (barCell c) 0 ∅ 0)
    ∗ bigSep Finset.univ (fun s : Slot => slotAny (F := F) c s.1 s.2) ∗ (∃ W : Waits sig Unit, owes (c : Thread nD τ) (O₀ c) W)
    ∗ weightSide m ρ c 0 ∗ outSide m ρ c 0 ∗ args m ρ c)

/-- What the signal across `h` hands over: the slots here that are filled from there. -/
theorem barPay_flip (h : Hop) :
    barPay (F := F) (flip h c) h = bigSep Finset.univ fun t : Xfer => if hop t = h then slotAny c t.1 (dstSlot t.2) else iprop(emp) := by
  unfold barPay
  refine bigSep_congr fun t _ => ?_
  by_cases ht : hop t = h
  · rw [if_pos ht, if_pos ht, show peer t (flip h c) = c from by rw [← ht]; exact peer_peer t c]
  · rw [if_neg ht, if_neg ht]

/-- All slots split into slot 0 of each part and the three neighbours' shares. -/
theorem slots_deal : bigSep Finset.univ (fun s : Slot => slotAny (F := F) c s.1 s.2)
    = iprop(bigSep Finset.univ (fun p : Part => slotAny (F := F) c p 0) ∗ barPay (flip 0 c) 0 ∗ barPay (flip 1 c) 1 ∗ barPay (flip 2 c) 2) := by
  rw [bigSep_slots, ← bigSep_by_hop (fun t : Xfer => slotAny (F := F) c t.1 (dstSlot t.2)), barPay_flip, barPay_flip, barPay_flip]
  exact congrArg _ (bigSep_hop _)

/-- What the three signals hand over: every slot a transfer of this device's fills. -/
theorem slots_got : bigSep Finset.univ (barPay (F := F) c) = bigSep Finset.univ fun t : Xfer => slotAny (peer t c) t.1 (dstSlot t.2) :=
  bigSep_by_hop fun t : Xfer => slotAny (F := F) (peer t c) t.1 (dstSlot t.2)

theorem send_begin (t : Xfer) : iprop(toSend (F := F) c t ∗ slotAny (peer t c) t.1 (dstSlot t.2)) ⊢ sendSide m ρ c 0 t := by
  rw [show sendSide m ρ c 0 t = _ from if_neg (Nat.not_lt_zero _)]
  unfold toSend
  iintro ⟨⟨Hs, Hr, Ha⟩, Hb⟩
  isplitl [Hs]; · iexact Hs
  isplitl [Hr]; · iexact Hr
  isplitl [Hb]; · iexact Hb
  iexact Ha

theorem sends_begin : iprop(bigSep Finset.univ (toSend (F := F) c) ∗ bigSep Finset.univ (barPay (F := F) c)) ⊢ bigSep Finset.univ (sendSide m ρ c 0) := by
  rw [slots_got, ← bigSep_sep']
  exact bigSep_mono fun t _ => send_begin m ρ c t

theorem slots_begin : bigSep Finset.univ (fun p : Part => slotAny (F := F) c p 0) = bigSep Finset.univ (slotSide m ρ c 0) := by
  rw [bigSep_slots]
  rw [bigSep_congr (s := Finset.univ) (Φ := fun t : Xfer => slotSide m ρ c 0 (t.1, dstSlot t.2)) (Ψ := fun _ => iprop(emp)) fun t _ =>
      (if_neg (Nat.not_lt_zero _)).trans (if_neg (Fin.succ_ne_zero _)), bigSep_nothing,
    bigSep_congr (s := Finset.univ) (Φ := fun p : Part => slotSide m ρ c 0 (p, 0)) (Ψ := fun p : Part => slotAny (F := F) c p 0) fun p _ =>
      (if_neg (Nat.not_lt_zero _)).trans (if_pos rfl)]
  exact (BI.equiv_iff.mp sep_emp).symm

/-! ## The barrier -/

theorem neighbour {f : Dev nD → ℕ} {h : Hop} {d : Dev nD} {lt : f d < nD} (e : ∀ c : Dev nD, f c = (flip h c).val) : (⟨f d, lt⟩ : Dev nD) = flip h d := Fin.ext (e d)

section Signal
variable {m ρ K c}
variable {α : Type} {Q : Post F α}

/-- A program that begins by reading an element of a scalar buffer. -/
theorem smem_then {β : Type} {s : Shape} {e : EltTy} {M : Memref sig .tc .smem s e} {r : Rect s} {h : (M.access r).Loads} {x : r.shape.Idx}
    {k : Elt F e → Prog (TpuEff nD τ sig (Elt F) Λ₀ .tc) α} {K' : α → Prog (TpuEff nD τ sig (Elt F) Λ₀ .tc) β} :
    (smemLoadElt M r h x k >>= K') = smemLoadElt M r h x fun w => k w >>= K' := rfl

/-- A signal across `h`. -/
theorem step_signal (h : Hop) {n : Dev nD} (hn : n = flip h c) {O O' : CellTallies nD τ sig Unit} (hO : O = O' + tallyAt (barCell (flip h c)) () 1) {W : Waits sig Unit}
    {kont : PUnit → Prog (TpuEff nD τ sig (Elt F) Λ₀ .tc) α} {P : Prp F}
    (next : iprop(records m ρ K ∗ owes (c : Thread nD τ) O' W ∗ P) ⊢ runs c (kont ⟨⟩) Q) :
    iprop(records m ρ K ∗ owes (c : Thread nD τ) O W ∗ dutyTok ER (barCell (flip h c)) 0 h ∗ barPay (flip h c) h ∗ P)
      ⊢ runs c (.op (.semSignal (Dev.tc n : Thread nD τ) barSem (1#32).toNat) kont) Q := by
  subst hn
  iintro ⟨#HR, HO, Ht, Hp, HP⟩
  iapply (Rounds.wp_signal 𝒱₀ ER (Rd m ρ) (c : Thread nD τ) none (dst := (flip h c : Thread nD τ)) (κ := K (flip h c, none))
      (d := h) (by rw [duties_bar]; exact Finset.mem_univ _) ((amount_bar m ρ (flip h c) h).trans (by decide)) () O' hO)
    $$ [HO Ht Hp]
  · isplitr; · iapply (records_inv m ρ K (flip h c, none)); iexact HR
    isplitl [HO]; · iexact HO
    isplitl [Ht]; · iexact Ht
    isplitl [Hp]; · rw [payload_bar]; iexact Hp
    iapply (records_reached m ρ K (flip h c, none)); iexact HR
  iintro HO
  iapply next
  isplitr; · iexact HR
  isplitl [HO]; · iexact HO
  iexact HP

/-- The wait for the three signals. -/
theorem step_meet {W : Waits sig Unit} {kont : PUnit → Prog (TpuEff nD τ sig (Elt F) Λ₀ .tc) α} {P : Prp F}
    (next : ∀ W' : Waits sig Unit, iprop(records m ρ K ∗ owes (c : Thread nD τ) (owed c 0) W' ∗ bigSep Finset.univ (barPay (F := F) c) ∗ atPos ER (barCell c) 1 ∅ 0 ∗ P)
      ⊢ runs c (kont ⟨⟩) Q) :
    iprop(records m ρ K ∗ owes (c : Thread nD τ) (owed c 0) W ∗ (cred (tallyAt (barCell c) () 3) ∗ atPos ER (barCell c) 0 ∅ 0) ∗ P)
      ⊢ runs c (.op (.semWait barSem (3#32).toNat) kont) Q := by
  iintro ⟨#HR, HO, ⟨Hc, Ha⟩, HP⟩
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [Hc HO Ha]
  · isplitr; · iapply (records_inv m ρ K (c, none)); iexact HR
    isplitl [Hc]; · iexact Hc
    isplitl [HO]; · iexact HO
    isplitr; · iapply (mayWait_bar c); iapply (records_lev m ρ K); iexact HR
    iexact Ha
  iintro ⟨HO, Ha, -, Hpay⟩
  ihave Hp := (Entails.of_eq (rest_bar m ρ c)) $$ Hpay
  iapply (next _)
  isplitr; · iexact HR
  isplitl [HO]; · iexact HO
  isplitl [Hp]; · iexact Hp
  isplitl [Ha]; · iexact Ha
  iexact HP

end Signal

/-- The start sorted in the order of the four steps. -/
theorem begin_sorted : Begin m ρ K c ⊢ iprop(∃ W : Waits sig Unit, records m ρ K ∗ owes (c : Thread nD τ) (O₀ c) W
    ∗ dutyTok ER (barCell (flip 0 c)) 0 (0 : Fin 3) ∗ barPay (flip 0 c) 0 ∗ dutyTok ER (barCell (flip 1 c)) 0 (1 : Fin 3) ∗ barPay (flip 1 c) 1
    ∗ dutyTok ER (barCell (flip 2 c)) 0 (2 : Fin 3) ∗ barPay (flip 2 c) 2 ∗ (cred (tallyAt (barCell c) () 3) ∗ atPos ER (barCell c) 0 ∅ 0)
    ∗ bigSep Finset.univ (toSend (F := F) c) ∗ bigSep Finset.univ (recvSide (F := F) c 0) ∗ bigSep Finset.univ (fun p : Part => slotAny (F := F) c p 0)
    ∗ weightSide m ρ c 0 ∗ outSide m ρ c 0 ∗ args m ρ c) := by
  unfold Begin
  rw [slots_deal, bigSep_hop]
  iintro ⟨HR, Hs, Hr, ⟨Ht0, Ht1, Ht2⟩, Hb, ⟨Hl, Hp0, Hp1, Hp2⟩, ⟨%W, HO⟩, Hw, Ho, Ha⟩
  iexists W
  isplitl [HR]; · iexact HR
  isplitl [HO]; · iexact HO
  isplitl [Ht0]; · iexact Ht0
  isplitl [Hp0]; · iexact Hp0
  isplitl [Ht1]; · iexact Ht1
  isplitl [Hp1]; · iexact Hp1
  isplitl [Ht2]; · iexact Ht2
  isplitl [Hp2]; · iexact Hp2
  isplitl [Hb]; · iexact Hb
  isplitl [Hs]; · iexact Hs
  isplitl [Hr]; · iexact Hr
  isplitl [Hl]; · iexact Hl
  isplitl [Hw]; · iexact Hw
  isplitl [Ho]; · iexact Ho
  iexact Ha

/-- After the barrier a device holds what it needs before its first step. -/
theorem begin_done (W : Waits sig Unit) : iprop(records m ρ K ∗ owes (c : Thread nD τ) (owed c 0) W ∗ bigSep Finset.univ (barPay (F := F) c) ∗ atPos ER (barCell c) 1 ∅ 0
    ∗ bigSep Finset.univ (toSend (F := F) c) ∗ bigSep Finset.univ (recvSide (F := F) c 0) ∗ bigSep Finset.univ (fun p : Part => slotAny (F := F) c p 0)
    ∗ weightSide m ρ c 0 ∗ outSide m ρ c 0 ∗ args m ρ c) ⊢ On m ρ K c 0 := by
  unfold On debts
  rw [slots_begin m ρ c]
  iintro ⟨HR, HO, Hp, Hat, Hs, Hr, Hl, Hw, Ho, Ha⟩
  isplitl [HR]; · iexact HR
  isplitl [Hs Hp]
  · iapply (sends_begin m ρ c)
    isplitl [Hs]; · iexact Hs
    iexact Hp
  isplitl [Hr]; · iexact Hr
  isplitl [Hl]; · iexact Hl
  isplitl [HO]; · iexists W; iexact HO
  isplitl [Hw]; · iexact Hw
  isplitl [Ho]; · iexact Ho
  isplitl [Ha]; · iexact Ha
  iexact Hat

variable {m ρ K c}

theorem part1 {Q : Post F (Σ' (d0 : Dev nD) (v2 : BitVec 32) (v15 : F .f32) (v16 : BitVec 32) (v17 : BitVec 32) (v18 : BitVec 32) (v19 : BitVec 32) (v20 : BitVec 32) (v21 : BitVec 32) (v22 : BitVec 32) (v23 : BitVec 32) (v24 : BitVec 32) (v25 : BitVec 32), BitVec 32)}
    (next : ∀ w0 w1 w2 w3 w4 w5 w6 w7 w8 w9 w10 w11 : BitVec 32, On m ρ K c 0 ⊢ Q ⟨c, w0, scale m ρ c, w1, w2, w3, w4, w5, w6, w7, w8, w9, w10, w11⟩) :
    Begin m ρ K c ⊢ runs c (given (k0_part1 (F := F))) Q := by
  unfold given; simp only [k0_part1_eq_skeleton]; unfold k0_part1_skel
  unfold runs
  simp only [semSignalWord, semWaitWord, Prog.lift, Prog.bind_op, Prog.bind_ret, Prog.pure_eq_ret, wp_deviceId, smemLoad, smem_then]
  refine (begin_sorted m ρ K c).trans (exists_elim fun W => ?_)
  refine step_signal 0 (neighbour (d := c) (f := k0_dev1) (by decide +kernel)) rfl ?_
  refine step_signal 1 (neighbour (d := c) (f := k0_dev2) (by decide +kernel)) rfl ?_
  refine step_signal 2 (neighbour (d := c) (f := k0_dev3) (by decide +kernel)) rfl ?_
  refine step_meet fun W' => (begin_done m ρ K c W').trans ?_
  refine step_load_scale_x ?_
  refine step_load_scale_w ?_
  exact step_ret (next _ _ _ _ _ _ _ _ _ _ _ _)

end Cert.KernelIdeal.Exchange
-- ==== Proof.KernelIdeal.Body.lean ====
/-
The whole program of a device, part after part. Generic in the float instance.
-/
module

public import proofs.«01_k».proof.Proof.KernelIdeal.Begin

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Cell → ℕ} {c : Dev nD}

/-- From what a device starts with to what it holds after its last step. -/
theorem whole {Q : Post F PUnit} (next : On m ρ K c lastAt ⊢ Q ⟨⟩) : Begin m ρ K c ⊢ runs c (given (cc0_body (F := F))) Q := by
  unfold given; simp only [cc0_body_eq_skeleton]; unfold cc0_body_skel
  refine runs_bind (part1 fun _ _ _ _ _ _ _ _ _ _ _ _ => ?_)
  refine runs_bind (part2 _ _ _ _ (fun _ _ _ _ _ _ _ _ _ _ _ _ _ => ?_))
  refine runs_bind (part3 _ _ _ _ ?_)
  refine runs_bind (part4 _ _ ?_)
  refine runs_bind (part5 _ _ _ ?_)
  refine runs_bind (part6 _ (fun _ => ?_))
  refine runs_bind (part7 _ _ _ ?_)
  refine runs_bind (part8 _ _ _ ?_)
  refine runs_bind (part9 _ _ _ (fun _ _ => ?_))
  refine runs_bind (part10 _ _ _ _ _ ?_)
  refine runs_bind (part11 _ _ _ ?_)
  refine runs_bind (part12 _ _ _ ?_)
  refine runs_bind (part13 _ _ _ ?_)
  refine runs_bind (part14 _ _ _ (fun _ _ => ?_))
  refine runs_bind (part15 _ _ _ _ (fun _ => ?_))
  refine runs_bind (part16 _ _ _ _ ?_)
  refine runs_bind (part17 _ _ _ (fun _ => ?_))
  refine runs_bind (part18 _ _ _ ?_)
  refine runs_bind (part19 _ _ _ ?_)
  refine runs_bind (part20 _ _ (fun _ _ => ?_))
  refine runs_bind (part21 _ _ _ _ _ ?_)
  refine runs_bind (part22 _ _ (fun _ => ?_))
  refine runs_bind (part23 _ _ _ _ ?_)
  refine runs_bind (part24 _ _ (fun _ => ?_))
  refine runs_bind (part25 _ _ _ ?_)
  refine runs_bind (part26 ?_)
  refine runs_bind (part27 ?_)
  refine runs_bind (part28 ?_)
  refine runs_bind (part29 ?_)
  refine runs_bind (part30 ?_)
  simp only [Prog.lift, Prog.bind_op, Prog.bind_ret, Prog.pure_eq_ret]
  refine step_left (2, 5) rfl rfl (N_eq 2 (srcSlot 5)) ?_
  refine step_left (2, 6) rfl rfl (N_eq 2 (srcSlot 6)) ?_
  exact step_ret next

end Cert.KernelIdeal.Exchange
-- ==== Proof.KernelIdeal.Finish.lean ====
/-
The two ends of a device's program. A part's buffer of eight slots is held whole, or slot by slot. After the last step
every slot has its lent shares back, the eight slots of a part join to the part's buffer, the result is written in full,
and every cell is closed with its counter at zero. Generic in the float instance.
-/
module

public import proofs.«01_k».proof.Proof.KernelIdeal.Body
public import Idealize.ShloMosaic.Lib.Ring

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

/-! ## A part's buffer and its slots -/

/-- The buffer behind a part's slots. -/
def scratch : Part → Ref sig .tc
  | 0 => cc0_scratch1
  | 1 => cc0_scratch2
  | 2 => cc0_scratch3

/-- A part's buffer held whole, whatever it holds. -/
def bufAny (p : Part) : sProp 𝕄 :=
  iprop(∃ f : Buf (Elt F) ((c : Thread nD τ).loc (scratch p)), ((c : Thread nD τ).loc (scratch p) ↦{fullShare} f))

theorem slots_disjoint (p : Part) (j j' : Fin 8) (h : j ≠ j') : Disjoint (slotRect p j).set (slotRect p j').set :=
  Ring.lead_disjoint (s := ⟨3, ![8, rows p, 4096]⟩) (0 : Fin 3) 1 (fun j : Fin 8 => ![j.val, 0, 0]) (SlotShape p).size (slot_inb p)
    (fun j => (Nat.one_mul j.val).symm) rfl j j' h

theorem slots_cover (p : Part) : Finset.univ.biUnion (fun j => (slotRect p j).set) = Finset.univ :=
  Ring.lead_cover (s := ⟨3, ![8, rows p, 4096]⟩) (0 : Fin 3) 1 (fun j : Fin 8 => ![j.val, 0, 0]) (SlotShape p).size (slot_inb p)
    (fun j => (Nat.one_mul j.val).symm) (fun j a ha => by match a with | 0 => exact absurd rfl ha | 1 => rfl | 2 => rfl)
    rfl (fun a ha => by match a with | 0 => exact absurd rfl ha | 1 => rfl | 2 => rfl) rfl

/-- What is held at some contents. -/
theorem holds_some {ℓ : Loc nD τ sig} (I : Finset (Idx ℓ)) (f : Buf (Elt F) ℓ) : (ℓ ↦[I]{fullShare} f : sProp 𝕄) ⊢ iprop(∃ g : Buf (Elt F) ℓ, (ℓ ↦[I]{fullShare} g)) := by
  iintro H; iexists f; iexact H

/-- A part's buffer is its eight slots, each whatever it holds. -/
theorem bufAny_slots (p : Part) : bufAny (F := F) c p ⊣⊢ bigSep Finset.univ fun j : Fin 8 => slotAny (F := F) c p j := by
  have key : ∀ (b : Ref sig .tc) (I : Fin 8 → Finset (Idx ((c : Thread nD τ).loc b))), (∀ j j', j ≠ j' → Disjoint (I j) (I j')) → Finset.univ.biUnion I = Finset.univ →
      ((iprop(∃ f : Buf (Elt F) ((c : Thread nD τ).loc b), ((c : Thread nD τ).loc b ↦{fullShare} f)) : sProp 𝕄)
        ⊣⊢ bigSep Finset.univ fun j : Fin 8 => iprop(∃ f : Buf (Elt F) ((c : Thread nD τ).loc b), ((c : Thread nD τ).loc b ↦[I j]{fullShare} f))) := by
    intro b I hd hc
    constructor
    · refine exists_elim fun f => ?_
      rw [Ring.pointsTo_blocks I hd hc f]
      exact bigSep_mono fun j _ => holds_some _ f
    · refine (BI.bigSep_exists_pi Finset.univ fun j f => ((c : Thread nD τ).loc b ↦[I j]{fullShare} f : sProp 𝕄)).trans (exists_elim fun fs => ?_)
      exact Ring.pointsTo_blocks_join I hd hc fs (fs 0)
  match p with
  | 0 =>
    have e (j : Fin 8) : (slotV 0 j).set = (slotRect 0 j).set := View.set_slice_whole cc0_scratch1 (slotRect 0 j)
    exact key cc0_scratch1 (fun j => (slotV 0 j).set) (fun j j' h => by rw [e, e]; exact slots_disjoint 0 j j' h) (by simp only [e]; exact slots_cover 0)
  | 1 =>
    have e (j : Fin 8) : (slotV 1 j).set = (slotRect 1 j).set := View.set_slice_whole cc0_scratch2 (slotRect 1 j)
    exact key cc0_scratch2 (fun j => (slotV 1 j).set) (fun j j' h => by rw [e, e]; exact slots_disjoint 1 j j' h) (by simp only [e]; exact slots_cover 1)
  | 2 =>
    have e (j : Fin 8) : (slotV 2 j).set = (slotRect 2 j).set := View.set_slice_whole cc0_scratch3 (slotRect 2 j)
    exact key cc0_scratch3 (fun j => (slotV 2 j).set) (fun j j' h => by rw [e, e]; exact slots_disjoint 2 j j' h) (by simp only [e]; exact slots_cover 2)

/-- The three buffers are all the slots. -/
theorem buffers_slots : bigSep Finset.univ (bufAny (F := F) c) ⊣⊢ bigSep Finset.univ fun s : Slot => slotAny (F := F) c s.1 s.2 := by
  rw [bigSep_univ_prod (fun s : Slot => slotAny (F := F) c s.1 s.2)]
  exact ⟨bigSep_mono fun p _ => (bufAny_slots c p).1, bigSep_mono fun p _ => (bufAny_slots c p).2⟩

/-! ## The lent shares come back -/

theorem lent_last : ∀ s : Slot, lentBy lastAt s = match s.2 with | 0 => 3 | 1 => 2 | 2 => 1 | 3 => 1 | _ => 0 := by decide +kernel

theorem slotHas_any (p : Part) (j : Fin 8) (o : Dev nD) : slotHas m ρ c p j fullShare o ⊢ slotAny (F := F) c p j := by
  rw [slotHas_eq]; unfold slotAny
  exact exists_elim fun f => (sep_elim_right).trans (exists_intro f)

theorem back_one (p : Part) (j : Fin 8) (o : Dev nD) :
    iprop(slotHas m ρ c p j (kept 1) o ∗ slotHas m ρ c p j (lend 0) o) ⊢ slotAny (F := F) c p j := by
  refine BIBase.Entails.trans ?_ (slotHas_any m ρ c p j o)
  iintro ⟨H, H0⟩
  iapply (slotHas_back m ρ c p j 0 o)
  isplitl [H0]; · iexact H0
  iexact H

theorem back_two (p : Part) (j : Fin 8) (o : Dev nD) :
    iprop(slotHas m ρ c p j (kept 2) o ∗ slotHas m ρ c p j (lend 0) o ∗ slotHas m ρ c p j (lend 1) o) ⊢ slotAny (F := F) c p j := by
  refine BIBase.Entails.trans ?_ (back_one m ρ c p j o)
  iintro ⟨H, H0, H1⟩
  isplitl [H H1]
  · iapply (slotHas_back m ρ c p j 1 o)
    isplitl [H1]; · iexact H1
    iexact H
  iexact H0

theorem back_three (p : Part) (j : Fin 8) (o : Dev nD) :
    iprop(slotHas m ρ c p j (kept 3) o ∗ slotHas m ρ c p j (lend 0) o ∗ slotHas m ρ c p j (lend 1) o ∗ slotHas m ρ c p j (lend 2) o) ⊢ slotAny (F := F) c p j := by
  refine BIBase.Entails.trans ?_ (back_two m ρ c p j o)
  iintro ⟨H, H0, H1, H2⟩
  isplitl [H H2]
  · iapply (slotHas_back m ρ c p j 2 o)
    isplitl [H2]; · iexact H2
    iexact H
  isplitl [H0]; · iexact H0
  iexact H1

/-- Of one part, what is kept of the slots and what its transfers borrowed make the slots whole. -/
theorem part_back (p : Part) :
    iprop(bigSep Finset.univ (fun j : Fin 8 => slotHas m ρ c p j (kept (lentBy lastAt (p, j))) (orig p j c)) ∗ bigSep Finset.univ (fun i : Fin 7 => sendPay m ρ c (p, i)))
      ⊢ bigSep Finset.univ fun j : Fin 8 => slotAny (F := F) c p j := by
  simp only [lent_last]
  rw [bigSep_univ_eq_bigSepL [0, 1, 2, 3, 4, 5, 6, 7] (by decide) (by decide) (fun j : Fin 8 => slotAny (F := F) c p j),
    bigSep_univ_eq_bigSepL [0, 1, 2, 3, 4, 5, 6, 7] (by decide) (by decide), bigSep_univ_eq_bigSepL [0, 1, 2, 3, 4, 5, 6] (by decide) (by decide)]
  show iprop((slotHas m ρ c p 0 (kept 3) _ ∗ slotHas m ρ c p 1 (kept 2) _ ∗ slotHas m ρ c p 2 (kept 1) _ ∗ slotHas m ρ c p 3 (kept 1) _
      ∗ slotHas m ρ c p 4 fullShare _ ∗ slotHas m ρ c p 5 fullShare _ ∗ slotHas m ρ c p 6 fullShare _ ∗ slotHas m ρ c p 7 fullShare _)
    ∗ (slotHas m ρ c p 0 (lend 0) _ ∗ slotHas m ρ c p 0 (lend 1) _ ∗ slotHas m ρ c p 1 (lend 0) _ ∗ slotHas m ρ c p 0 (lend 2) _ ∗ slotHas m ρ c p 1 (lend 1) _
      ∗ slotHas m ρ c p 2 (lend 0) _ ∗ slotHas m ρ c p 3 (lend 0) _)) ⊢ iprop(slotAny c p 0 ∗ slotAny c p 1 ∗ slotAny c p 2 ∗ slotAny c p 3 ∗ slotAny c p 4 ∗ slotAny c p 5 ∗ slotAny c p 6 ∗ slotAny c p 7)
  iintro ⟨⟨H0, H1, H2, H3, H4, H5, H6, H7⟩, L0, L1, L2, L3, L4, L5, L6⟩
  isplitl [H0 L0 L1 L3]
  · iapply (back_three m ρ c p 0 _)
    isplitl [H0]; · iexact H0
    isplitl [L0]; · iexact L0
    isplitl [L1]; · iexact L1
    iexact L3
  isplitl [H1 L2 L4]
  · iapply (back_two m ρ c p 1 _)
    isplitl [H1]; · iexact H1
    isplitl [L2]; · iexact L2
    iexact L4
  isplitl [H2 L5]
  · iapply (back_one m ρ c p 2 _)
    isplitl [H2]; · iexact H2
    iexact L5
  isplitl [H3 L6]
  · iapply (back_one m ρ c p 3 _)
    isplitl [H3]; · iexact H3
    iexact L6
  isplitl [H4]; · iapply (slotHas_any m ρ c p 4 _); iexact H4
  isplitl [H5]; · iapply (slotHas_any m ρ c p 5 _); iexact H5
  isplitl [H6]; · iapply (slotHas_any m ρ c p 6 _); iexact H6
  iapply (slotHas_any m ρ c p 7 _); iexact H7

theorem slots_last : slotSide m ρ c lastAt = fun s : Slot => slotHas m ρ c s.1 s.2 (kept (lentBy lastAt s)) (orig s.1 s.2 c) :=
  funext fun s => if_pos (have_before_last s)
theorem sends_last : sendSide m ρ c lastAt = fun t : Xfer => iprop(atPos ER (sendCell c t) 1 ∅ 0 ∗ sendPay m ρ c t) :=
  funext fun t => (if_pos (all_before_last t).2.1).trans (if_pos (all_before_last t).2.2)
theorem recvs_last : recvSide (F := F) c lastAt = fun t : Xfer => atPos ER (recvCell c t) 1 ∅ 0 :=
  funext fun t => if_pos (all_before_last t).1

/-- After the last step the three buffers are whole again. -/
theorem buffers_back :
    iprop(bigSep Finset.univ (slotSide m ρ c lastAt) ∗ bigSep Finset.univ (sendPay m ρ c)) ⊢ bigSep Finset.univ (bufAny (F := F) c) := by
  refine BIBase.Entails.trans ?_ (buffers_slots c).2
  rw [slots_last, bigSep_univ_prod, bigSep_univ_prod, bigSep_univ_prod, ← bigSep_sep']
  exact bigSep_mono fun p _ => part_back m ρ c p

/-! ## The result is written in full -/

theorem written_all (f : (cc0_stg4_0 : Ref sig .tc).ty.Contents (Elt F)) (h : Written m ρ c lastAt f) : f = result m ρ c :=
  funext fun i => by
    obtain ⟨s, hs⟩ := out_cover c i
    exact h s (mul_before_last s) i hs

theorem out_last : outSide m ρ c lastAt ⊢ ((c : Thread nD τ).loc cc0_stg4_0 ↦{fullShare} result m ρ c) := by
  unfold outSide
  iintro ⟨%f, %h, H⟩
  rw [← written_all m ρ c f h]
  iexact H

theorem weights_last : weightSide m ρ c lastAt
    ⊢ iprop(∃ f : Buf (Elt F) ((c : Thread nD τ).loc cc0_scratch0), ((c : Thread nD τ).loc cc0_scratch0 ↦{fullShare} f)) := by
  rw [show weightSide m ρ c lastAt = _ from if_pos (by decide)]
  exact exists_intro _

/-! ## The cells close -/

theorem close (k : Cell) : iprop(records m ρ K ∗ atPos ER (kcell (c, k)) 1 ∅ 0) ⊢ (|={Set.univ}=> semVal (kcell (c, k)) 0 : sProp 𝕄) :=
  (sep_mono_left (records_inv m ρ K (c, k))).trans
    (Rounds.cell_close ER (Rd m ρ) (Set.mem_univ _) (fun h => h) (R := 1) (duties_later m ρ _))

theorem close_all : iprop(records m ρ K ∗ bigSep Finset.univ (fun k : Cell => atPos ER (kcell (c, k)) 1 ∅ 0))
    ⊢ (|={Set.univ}=> bigSep Finset.univ (fun k : Cell => semVal (kcell (c, k)) 0) : sProp 𝕄) :=
  (bigSep_with_persistent fun k _ => close m ρ K c k).trans (bigSep_fupd _ _)

/-- A conjunction over a device's cells: the barrier, the leavings, the landings. -/
theorem bigSep_cell (Φ : Cell → sProp 𝕄) : bigSep Finset.univ Φ
    = iprop(Φ none ∗ bigSep Finset.univ (fun t : Xfer => Φ (some (.inl t))) ∗ bigSep Finset.univ (fun t : Xfer => Φ (some (.inr t)))) := by
  rw [bigSep_univ_at _ none, show (Finset.univ : Finset Cell).erase none = Finset.univ.map ⟨some, Option.some_injective _⟩ from by decide, bigSep_map, bigSep_univ_sum]
  rfl

/-- What a device holds when its program is done. -/
def Done : sProp 𝕄 :=
  iprop((∃ f : Buf (Elt F) ((c : Thread nD τ).loc cc0_scratch0), ((c : Thread nD τ).loc cc0_scratch0 ↦{fullShare} f))
    ∗ bigSep Finset.univ (bufAny (F := F) c) ∗ bigSep Finset.univ (fun k : Cell => semVal (kcell (c, k)) 0))

theorem on_last : On m ρ K c lastAt ⊢ iprop((records m ρ K ∗ bigSep Finset.univ (fun k : Cell => atPos ER (kcell (c, k)) 1 ∅ 0))
    ∗ (bigSep Finset.univ (slotSide m ρ c lastAt) ∗ bigSep Finset.univ (sendPay m ρ c)) ∗ debts c lastAt ∗ weightSide m ρ c lastAt ∗ outSide m ρ c lastAt ∗ args m ρ c) := by
  unfold On
  rw [sends_last, recvs_last, bigSep_sep', bigSep_cell]
  iintro ⟨HR, ⟨Hs, Hp⟩, Hr, Hl, HO, Hw, Ho, Ha, Hb⟩
  isplitl [HR Hs Hr Hb]
  · isplitl [HR]; · iexact HR
    isplitl [Hb]; · iexact Hb
    isplitl [Hs]; · iexact Hs
    iexact Hr
  isplitl [Hl Hp]
  · isplitl [Hl]; · iexact Hl
    iexact Hp
  isplitl [HO]; · iexact HO
  isplitl [Hw]; · iexact Hw
  isplitl [Ho]; · iexact Ho
  iexact Ha

theorem finish : On m ρ K c lastAt ⊢ |={Set.univ}=> iprop(Done (F := F) c ∗ debts c lastAt
    ∗ ((c : Thread nD τ).loc cc0_stg4_0 ↦{fullShare} result m ρ c) ∗ args m ρ c) := by
  refine (on_last m ρ K c).trans ?_
  iintro ⟨Hc, Hl, HO, Hw, Ho, Ha⟩
  imod (close_all m ρ K c) $$ Hc with Hz
  imodintro
  unfold Done
  isplitl [Hz Hl Hw]
  · isplitl [Hw]; · iapply (weights_last m ρ c); iexact Hw
    isplitl [Hl]; · iapply (buffers_back m ρ c); iexact Hl
    iexact Hz
  isplitl [HO]; · iexact HO
  isplitl [Ho]; · iapply (out_last m ρ c); iexact Ho
  iexact Ha

end Cert.KernelIdeal.Exchange
-- ==== Proof.KernelIdeal.Obligation.lean ====
/-
The call's proof data: what is held at its one point's two ends, and the body between them. Generic in the float
instance.
-/
module

public import proofs.«01_k».proof.Proof.KernelIdeal.Finish
public import proofs.«01_k».proof.Proof.Gen.KernelIdeal.Points

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds at the two ends -/

/-- Its share of the exchange's ghost state: the duties it will pay and its place at each of its cells. -/
def mine (c : Dev nD) : sProp 𝕄 :=
  iprop(bigSep Finset.univ (toSend (F := F) c) ∗ bigSep Finset.univ (fun t : Xfer => atPos ER (recvCell c t) 0 ∅ 0)
    ∗ bigSep Finset.univ (fun h : Hop => (dutyTok ER (barCell (flip h c)) 0 h : sProp 𝕄)) ∗ atPos ER (barCell c) 0 ∅ 0)

/-- What it may wait for: three units at the barrier, and every landing. -/
def claims (c : Dev nD) : sProp 𝕄 :=
  iprop(cred (tallyAt (barCell c) () 3) ∗ bigSep Finset.univ fun t : Xfer => cred (tallyAt (recvCell c t) () (N t.1)))

def start (c : Dev nD) : sProp 𝕄 := iprop(∃ K : Dev nD × Cell → ℕ, records m ρ K ∗ mine c ∗ claims c)

/-- The buffers no window stages: the copy of the weights, and the slots. -/
def buffers (c : Dev nD) : sProp 𝕄 :=
  iprop((∃ f : Buf (Elt F) ((c : Thread nD τ).loc cc0_scratch0), ((c : Thread nD τ).loc cc0_scratch0 ↦{fullShare} f)) ∗ bigSep Finset.univ (bufAny (F := F) c))

/-- The call's proof data: one point, entered from the start and the buffers, left with the program done. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => result m ρ c
  Φ t := match t with
    | ⟨0, _⟩ => iprop(start m ρ c ∗ buffers c)
    | ⟨_ + 1, _⟩ => Done c
  q _ := fullShare
  owed t := match t with
    | ⟨0, _⟩ => O₀ c
    | ⟨_ + 1, _⟩ => 0

/-! ## The body between them -/

/-- A staging buffer held whole at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_of (c : Dev nD) (b : Ref sig .tc) (X : b.ty.Contents (Elt F)) : ((c : Thread nD τ).loc b ↦{fullShare} X : sProp 𝕄) ⊢ stg c b X := by
  iintro H; iexists X; isplitr; · ipureintro; rfl
  iexact H
theorem of_stg (c : Dev nD) (b : Ref sig .tc) {X Y : b.ty.Contents (Elt F)} (h : X = Y) : stg c b X ⊢ ((c : Thread nD τ).loc b ↦{fullShare} Y : sProp 𝕄) := by
  subst h; iintro ⟨%f, %hf, H⟩; rw [← hf]; iexact H

def bodyPre (c : Dev nD) : sProp 𝕄 :=
  iprop((start m ρ c ∗ buffers c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Done c ∗ (dats m ρ 0 c).owesAt () t0_0.succ ∗ stg c cc0_stg0_0 (xstg m ρ c) ∗ stg c cc0_stg1_0 (wstg m ρ c) ∗ stg c cc0_stg2_0 (sxstg m ρ c)
    ∗ stg c cc0_stg3_0 (swstg m ρ c) ∗ stg c cc0_stg4_0 (result m ρ c))

/-- The fetched windows' buffers hold the blocks of the arguments. -/
theorem before_x (c : Dev nD) (d : (cc0_stg0_0 : Ref sig .tc).ty.Contents (Elt F)) : (dats m ρ 0 c).before (0 : Fin 5) t0_0 d = xstg m ρ c := by
  unfold Dat.before; rw [if_pos (fetch0_0 t0_0)]; rfl
theorem before_w (c : Dev nD) (d : (cc0_stg1_0 : Ref sig .tc).ty.Contents (Elt F)) : (dats m ρ 0 c).before (1 : Fin 5) t0_0 d = wstg m ρ c := by
  unfold Dat.before; rw [if_pos (fetch0_1 t0_0)]; rfl
theorem before_sx (c : Dev nD) (d : (cc0_stg2_0 : Ref sig .tc).ty.Contents (Elt F)) : (dats m ρ 0 c).before (2 : Fin 5) t0_0 d = sxstg m ρ c := by
  unfold Dat.before; rw [if_pos (fetch0_2 t0_0)]; rfl
theorem before_sw (c : Dev nD) (d : (cc0_stg3_0 : Ref sig .tc).ty.Contents (Elt F)) : (dats m ρ 0 c).before (3 : Fin 5) t0_0 d = swstg m ρ c := by
  unfold Dat.before; rw [if_pos (fetch0_3 t0_0)]; rfl

theorem recv_begin (c : Dev nD) (t : Xfer) : recvSide (F := F) c 0 t = iprop(cred (tallyAt (recvCell c t) () (N t.1)) ∗ atPos ER (recvCell c t) 0 ∅ 0) :=
  if_neg (Nat.not_lt_zero _)
theorem recvs_begin (c : Dev nD) :
    iprop(bigSep Finset.univ (fun t : Xfer => cred (tallyAt (recvCell c t) () (N t.1))) ∗ bigSep Finset.univ (fun t : Xfer => atPos ER (recvCell c t) 0 ∅ 0))
      ⊢ bigSep Finset.univ (recvSide (F := F) c 0) := by
  rw [← bigSep_sep']
  exact Entails.of_eq (bigSep_congr fun t _ => (recv_begin c t).symm)

theorem begin_weights (c : Dev nD) : (iprop(∃ f : Buf (Elt F) ((c : Thread nD τ).loc cc0_scratch0), ((c : Thread nD τ).loc cc0_scratch0 ↦{fullShare} f)) : sProp 𝕄) ⊢ weightSide m ρ c 0 :=
  Entails.of_eq (if_neg (Nat.not_lt_zero _)).symm

theorem begin_out (c : Dev nD) (X : (cc0_stg4_0 : Ref sig .tc).ty.Contents (Elt F)) : stg c cc0_stg4_0 X ⊢ outSide m ρ c 0 := by
  unfold outSide
  iintro ⟨%f, -, H⟩
  iexists f
  isplitr; · ipureintro; exact fun s hs => absurd hs (Nat.not_lt_zero _)
  iexact H

/-- What the pipeline hands the body is what the program starts from. -/
theorem begin_intro (c : Dev nD) : bodyPre m ρ c ⊢ iprop(∃ K : Dev nD × Cell → ℕ, Begin m ρ K c) := by
  unfold bodyPre start mine claims buffers Dat.owesAt Pipeline.owesWithin
  iintro ⟨⟨⟨%K, HR, ⟨Hs, Hra, Hb, Hba⟩, Hbc, Hrc⟩, Hw, Hsl⟩, ⟨%W, %hW, HO⟩, ⟨%d0, Hx⟩, ⟨%d1, Hwt⟩, ⟨%d2, Hsx⟩, ⟨%d3, Hsw⟩, ⟨%d4, Ho⟩⟩
  iexists K
  unfold Begin args
  isplitl [HR]; · iexact HR
  isplitl [Hs]; · iexact Hs
  isplitl [Hrc Hra]
  · iapply (recvs_begin c)
    isplitl [Hrc]; · iexact Hrc
    iexact Hra
  isplitl [Hb]; · iexact Hb
  isplitl [Hbc Hba]
  · isplitl [Hbc]; · iexact Hbc
    iexact Hba
  isplitl [Hsl]; · iapply (buffers_slots c).1; iexact Hsl
  isplitl [HO]; · iexists W; iexact HO
  isplitl [Hw]; · iapply (begin_weights m ρ c); iexact Hw
  isplitl [Ho]; · iapply (begin_out m ρ c _); iexact Ho
  isplitl [Hx]; · iapply (of_stg c cc0_stg0_0 (before_x m ρ c d0)); iexact Hx
  isplitl [Hwt]; · iapply (of_stg c cc0_stg1_0 (before_w m ρ c d1)); iexact Hwt
  isplitl [Hsx]; · iapply (of_stg c cc0_stg2_0 (before_sx m ρ c d2)); iexact Hsx
  iapply (of_stg c cc0_stg3_0 (before_sw m ρ c d3)); iexact Hsw

/-- What the program leaves is what the pipeline takes back. -/
theorem end_intro (c : Dev nD) : iprop(Done (F := F) c ∗ debts c lastAt ∗ ((c : Thread nD τ).loc cc0_stg4_0 ↦{fullShare} result m ρ c) ∗ args m ρ c) ⊢ bodyPost m ρ c := by
  unfold bodyPost args debts Dat.owesAt Pipeline.owesWithin
  rw [owed_last]
  iintro ⟨HD, ⟨%W, HO⟩, Ho, Hx, Hw, Hsx, Hsw⟩
  isplitl [HD]; · iexact HD
  isplitl [HO]
  · iexists W
    isplitr; · ipureintro; exact fun _ _ => Or.inl trivial
    iexact HO
  isplitl [Hx]; · iapply (stg_of c cc0_stg0_0); iexact Hx
  isplitl [Hw]; · iapply (stg_of c cc0_stg1_0); iexact Hw
  isplitl [Hsx]; · iapply (stg_of c cc0_stg2_0); iexact Hsx
  isplitl [Hsw]; · iapply (stg_of c cc0_stg3_0); iexact Hsw
  iapply (stg_of c cc0_stg4_0); iexact Ho

/-- What a program leaves may take an update. -/
theorem done_later {c : Dev nD} {P : Prp F} (prog : Prog (TpuEff nD τ sig (Elt F) Λ₀ .tc) PUnit) :
    runs c prog (fun _ => iprop(|={Set.univ}=> P)) ⊢ runs c prog (fun _ => P) :=
  wp_fupd frame (wpE (defs₀ (F := F)) 𝒱₀ (c : Thread nD τ) none) Set.univ prog fun _ => P

theorem body_runs (c : Dev nD) : bodyPre m ρ c ⊢ runs c (given (cc0_body (F := F))) (fun _ => bodyPost m ρ c) := by
  refine (begin_intro m ρ c).trans (exists_elim fun K => ?_)
  refine (whole (Q := fun _ => iprop(|={Set.univ}=> bodyPost m ρ c)) ?_).trans (done_later _)
  exact (finish m ρ K c).trans (BI.fupd_mono (end_intro m ρ c))

set_option maxRecDepth 20000 in
/-- The call's body meets its obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ runs c (given (cc0_body (F := F))) (fun _ => bodyPost m ρ c)
  exact body_runs m ρ c

end Cert.KernelIdeal.Exchange
-- ==== Proof.KernelIdeal.Launch.lean ====
/-
The launch: every device's cells and duties are made, the duties dealt to the devices that will pay them, what each may
wait for read off what the others owe; and the run of the whole program. Generic in the float instance.
-/
module

public import proofs.«01_k».proof.Proof.KernelIdeal.Obligation
public import Idealize.ShloMosaic.Lib.Pipeline.CollectiveSegs

@[expose] public section

noncomputable section

namespace Cert.KernelIdeal.Exchange

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties -/

/-- A device's cells are told apart by what they stand for. -/
theorem csem_injective : Function.Injective csem := by
  intro a b h
  have hk := congrArg kind h
  rcases a with _ | a | a <;> rcases b with _ | b | b <;> simp only [csem, kind_bar, kind_send, kind_recv, Kind.send.injEq, Kind.recv.injEq, reduceCtorEq] at hk
  · rfl
  · rw [hk]
  · rw [hk]

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kcell_inj {a b : Dev nD} {k k' : Cell} : kcell (a, k) = kcell (b, k') ↔ a = b ∧ k = k' :=
  ⟨fun h => Prod.ext_iff.mp (kcell_injective h), fun h => by rw [h.1, h.2]⟩

def exCells : Finset (GSem nD τ sig) := Finset.univ.map ⟨kcell, kcell_injective⟩

/-- A device's duties: one at the barrier for each involution, one at each other cell. -/
abbrev Duty : Type := Hop ⊕ (Xfer ⊕ Xfer)
abbrev dutyOf (x : Dev nD × Duty) : GSem nD τ sig × ℕ × Fin 3 := match x.2 with
  | .inl h => (barCell x.1, 0, h)
  | .inr k => (kcell (x.1, some k), 0, 0)

theorem dutyOf_injective : Function.Injective dutyOf := by
  rintro ⟨c, h | k⟩ ⟨c', h' | k'⟩ e
  · have e1 := (kcell_inj (k := none) (k' := none)).mp (congrArg Prod.fst e)
    have e2 : h = h' := congrArg (fun x : GSem nD τ sig × ℕ × Fin 3 => x.2.2) e
    rw [e1.1, e2]
  · exact absurd ((kcell_inj (k := none) (k' := some k')).mp (congrArg Prod.fst e)).2 (by simp)
  · exact absurd ((kcell_inj (k := some k) (k' := none)).mp (congrArg Prod.fst e)).2 (by simp)
  · have e1 := (kcell_inj (k := some k) (k' := some k')).mp (congrArg Prod.fst e)
    exact Prod.ext e1.1 (congrArg Sum.inr (Option.some.inj e1.2))

def exToks : Finset (GSem nD τ sig × ℕ × Fin 3) := Finset.univ.map ⟨dutyOf, dutyOf_injective⟩

/-- The ghost state the run starts from: the pipeline's, and the exchange's. -/
def u₀ : UU := (initOf (Pipeline.cells cfgs cellOf_inj) (Pipeline.launchToks cfgs cellOf_inj), initOf exCells exToks)

/-- The duties at a device's own cells. -/
def ownDuties (c : Dev nD) : sProp 𝕄 :=
  iprop(bigSep Finset.univ (fun h : Hop => dutyTok ER (barCell c) 0 h) ∗ bigSep Finset.univ (fun t : Xfer => dutyTok ER (sendCell c t) 0 (0 : Fin 3))
    ∗ bigSep Finset.univ (fun t : Xfer => dutyTok ER (recvCell c t) 0 (0 : Fin 3)))

def places (c : Dev nD) : sProp 𝕄 := bigSep Finset.univ fun k : Cell => atPos ER (kcell (c, k)) 0 ∅ 0
def firsts (c : Dev nD) : sProp 𝕄 := bigSep Finset.univ fun k : Cell => reached ER (kcell (c, k)) 0

/-- What each device gets of it. -/
def G (c : Dev nD) : sProp 𝕄 :=
  iprop((bigSep Finset.univ fun k : Cell => roundState ER (Rd m ρ) (kcell (c, k)) 0) ∗ places c ∗ firsts c ∗ ownDuties c)

theorem cells_by_device (Φ : GSem nD τ sig → sProp 𝕄) :
    bigSep exCells Φ = bigSep Finset.univ fun c : Dev nD => bigSep Finset.univ fun k : Cell => Φ (kcell (c, k)) := by
  unfold exCells; rw [bigSep_map, bigSep_univ_prod]; rfl

theorem duties_by_device : bigSep exToks (fun x => (dutyTok ER x.1 x.2.1 x.2.2 : sProp 𝕄)) = bigSep Finset.univ fun c : Dev nD => ownDuties c := by
  unfold exToks; rw [bigSep_map, bigSep_univ_prod]
  exact bigSep_congr fun c _ => by unfold ownDuties; rw [bigSep_univ_sum, bigSep_univ_sum]; rfl

theorem fund_exchange : BI.own (ER (initOf exCells exToks)) ⊢ (|==> bigSep Finset.univ (G m ρ) : sProp 𝕄) := by
  unfold G places firsts
  rw [bigSep_sep', bigSep_sep', bigSep_sep', ← cells_by_device fun g => roundState ER (Rd m ρ) g 0, ← cells_by_device fun g => atPos ER g 0 ∅ 0,
    ← cells_by_device fun g => reached ER g 0, ← duties_by_device]
  iintro HX
  imod (Rounds.fund ER (Rd m ρ) exCells exToks) $$ HX with ⟨Hst, Hr, Hat, Htok⟩
  imodintro
  isplitl [Hst]; · iexact Hst
  isplitl [Hat]; · iexact Hat
  isplitl [Hr]; · iexact Hr
  iexact Htok

/-! ## The cells are opened and the duties dealt -/

/-- The kernel's own semaphores: those of the leavings and the landings. -/
abbrev osem (k : Xfer ⊕ Xfer) : SemLoc sig := csem (some k)

theorem ownSemFacts : Pipeline.OwnSemFacts cfg0.spec osem where
  isScoped := by decide
  inj := csem_injective.comp (Option.some_injective _)
  disj := by
    have h : ∀ w s, kind (.dma ((cfg0.spec w).sem s)) = .other := by decide
    intro k w s e
    have := (congrArg kind e).trans (h w s)
    rcases k with t | t
    · rw [show osem (.inl t) = .dma (sendSem t) from rfl, kind_send] at this; cases this
    · rw [show osem (.inr t) = .dma (recvSem t) from rfl, kind_recv] at this; cases this

theorem unscoped_bar (c : Dev nD) : (unscopedSems0 c : sProp 𝕄) = semVal (barCell c) 0 := by
  unfold unscopedSems0; rw [bigSep_eq_bigSepL_of_eq [SemLoc.reg barSem] (by decide) (by decide)]; rfl

/-- A device's counters at zero, all its cells'. -/
theorem counters (c : Dev nD) : (bigSep Finset.univ fun k : Cell => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_cell, unscoped_bar]; unfold Pipeline.ownSems0; rw [bigSep_univ_sum]; rfl

theorem open_cells (c : Dev nD) :
    iprop((bigSep Finset.univ fun k : Cell => semVal (kcell (c, k)) 0) ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

/-- What a device has once its cells are open. -/
def opened (c : Dev nD) : sProp 𝕄 :=
  iprop((bigSep Finset.univ fun k : Cell => iprop(∃ κ : ℕ, cellInv ER (Rd m ρ) κ (kcell (c, k)))) ∗ places c ∗ firsts c ∗ ownDuties c)

theorem open_device (c : Dev nD) :
    iprop(Pipeline.ownSems0 (Ix := Unit) (Name := ℕ) (U := UU) (Lvl := ℕ) (Val := Elt F) (τ := τ) osem c ∗ unscopedSems0 c ∗ G m ρ c) ⊢ |={Set.univ}=> opened m ρ c := by
  unfold G opened
  iintro ⟨Hos, Hus, Hst, Hat, Hr, Htok⟩
  imod (open_cells m ρ c) $$ [Hos Hus Hst] with Hinv
  · rw [counters]
    isplitr [Hst]
    · isplitl [Hus]; · iexact Hus
      iexact Hos
    iexact Hst
  imodintro
  isplitl [Hinv]; · iexact Hinv
  isplitl [Hat]; · iexact Hat
  isplitl [Hr]; · iexact Hr
  iexact Htok

/-- The records but for the levels. -/
def ledger (K : Dev nD × Cell → ℕ) : sProp 𝕄 :=
  iprop(bigSep Finset.univ (fun ck : Dev nD × Cell => cellInv ER (Rd m ρ) (K ck) (kcell ck)) ∗ bigSep Finset.univ (fun ck : Dev nD × Cell => reached ER (kcell ck) 0))
instance ledger_persistent (K : Dev nD × Cell → ℕ) : BI.Persistent (ledger m ρ K) := by unfold ledger; infer_instance

def G' (c : Dev nD) : sProp 𝕄 := iprop(∃ K : Dev nD × Cell → ℕ, ledger m ρ K ∗ mine c)

/-- What is dealt along a permutation of the devices is the same altogether. -/
theorem deal {A : Type} [Fintype A] [DecidableEq A] (f : A → Dev nD → Dev nD) (hf : ∀ a c, f a (f a c) = c) (Φ : Dev nD → A → sProp 𝕄) :
    bigSep Finset.univ (fun c : Dev nD => bigSep Finset.univ (Φ c)) = bigSep Finset.univ fun c : Dev nD => bigSep Finset.univ fun a : A => Φ (f a c) a := by
  rw [bigSep_swap, bigSep_swap (fun (c : Dev nD) (a : A) => Φ (f a c) a)]
  exact bigSep_congr fun a _ => bigSep_univ_equiv ⟨f a, f a, hf a, hf a⟩ fun c => Φ c a

theorem deal_duties : bigSep Finset.univ (fun c : Dev nD => (ownDuties c : sProp 𝕄)) = bigSep Finset.univ fun c : Dev nD =>
    iprop(bigSep Finset.univ (fun h : Hop => dutyTok ER (barCell (flip h c)) 0 h) ∗ bigSep Finset.univ (fun t : Xfer => dutyTok ER (sendCell c t) 0 (0 : Fin 3))
      ∗ bigSep Finset.univ (fun t : Xfer => dutyTok ER (recvCell (peer t c) t) 0 (0 : Fin 3))) := by
  unfold ownDuties
  rw [bigSep_sep', bigSep_sep', bigSep_sep', bigSep_sep',
    deal flip flip_flip (fun (c : Dev nD) (h : Hop) => (dutyTok ER (barCell c) 0 h : sProp 𝕄)),
    deal peer peer_peer (fun (c : Dev nD) (t : Xfer) => (dutyTok ER (recvCell c t) 0 (0 : Fin 3) : sProp 𝕄))]

theorem mine_intro (c : Dev nD) :
    iprop(places c ∗ bigSep Finset.univ (fun h : Hop => dutyTok ER (barCell (flip h c)) 0 h) ∗ bigSep Finset.univ (fun t : Xfer => dutyTok ER (sendCell c t) 0 (0 : Fin 3))
      ∗ bigSep Finset.univ (fun t : Xfer => dutyTok ER (recvCell (peer t c) t) 0 (0 : Fin 3))) ⊢ (mine c : sProp 𝕄) := by
  unfold places mine toSend
  rw [bigSep_cell, bigSep_sep', bigSep_sep']
  iintro ⟨⟨Hb, Hs, Hr⟩, Hh, Hts, Htr⟩
  isplitl [Hs Hts Htr]
  · isplitl [Hts]; · iexact Hts
    isplitl [Htr]; · iexact Htr
    iexact Hs
  isplitl [Hr]; · iexact Hr
  isplitl [Hh]; · iexact Hh
  iexact Hb

theorem share_out (K : Dev nD × Cell → ℕ) (c : Dev nD) : iprop(ledger m ρ K ∗ mine c) ⊢ G' m ρ c := by
  unfold G'; iintro H; iexists K; iexact H

theorem all_mine : iprop(bigSep Finset.univ (fun c : Dev nD => places (F := F) c) ∗ bigSep Finset.univ (fun c : Dev nD => ownDuties (F := F) c)) ⊢ bigSep Finset.univ fun c : Dev nD => mine (F := F) c := by
  rw [deal_duties, ← bigSep_sep']
  exact bigSep_mono fun c _ => mine_intro c

theorem regroup : bigSep Finset.univ (opened m ρ) ⊢ bigSep Finset.univ (G' m ρ) := by
  unfold opened firsts
  rw [bigSep_sep', bigSep_sep', bigSep_sep', ← bigSep_univ_prod (fun ck : Dev nD × Cell => iprop(∃ κ : ℕ, cellInv ER (Rd m ρ) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Hm := (all_mine (F := F)) $$ [Hat Htok]
  · isplitl [Hat]; · iexact Hat
    iexact Htok
  iapply (bigSep_with_persistent (R := ledger m ρ K) fun c _ => share_out m ρ K c)
  isplitr
  · unfold ledger; isplitr; · iexact HI
    iexact HR
  iexact Hm

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_device m ρ c).trans (bigSep_fupd _ _)).trans (BI.fupd_mono (regroup m ρ))

/-! ## What a device may wait for -/

theorem owed_at (d : Dev nD) (g : GSem nD τ sig) : owed d 0 g () = ∑ t : Xfer, if g = recvCell (peer t d) t then N t.1 else 0 := by
  unfold owed
  rw [Finset.sum_apply, Finsupp.finset_sum_apply]
  refine Finset.sum_congr rfl fun t _ => ?_
  rw [if_neg (Nat.not_lt_zero _), tallyAt_apply]
  simp only [_root_.and_true]

theorem flip_iff (h : Hop) (a b : Dev nD) : a = flip h b ↔ b = flip h a :=
  ⟨fun e => by rw [e]; exact (Mesh.flip_flip h b).symm, fun e => by rw [e]; exact (Mesh.flip_flip h a).symm⟩

theorem owing_bar (d c : Dev nD) : O₀ d (barCell c) () = (if d = flip 2 c then 1 else 0) + (if d = flip 1 c then 1 else 0) + (if d = flip 0 c then 1 else 0) := by
  have hf (h : Hop) : barCell c = barCell (flip h d) ↔ d = flip h c :=
    (kcell_inj (a := c) (b := flip h d) (k := none) (k' := none)).trans ((and_iff_left rfl).trans (flip_iff h c d))
  unfold O₀
  rw [Pi.add_apply, Finsupp.add_apply, Pi.add_apply, Finsupp.add_apply, Pi.add_apply, Finsupp.add_apply, owed_at,
    Finset.sum_eq_zero fun t _ => if_neg fun e => by cases ((kcell_inj (k := none) (k' := some (.inr t))).mp e).2]
  simp only [tallyAt_apply, _root_.and_true, hf, Nat.zero_add]

theorem owing_recv (d c : Dev nD) (t : Xfer) : O₀ d (recvCell c t) () = if d = peer t c then N t.1 else 0 := by
  have hb (h : Hop) : recvCell c t ≠ barCell (flip h d) := fun e => by cases ((kcell_inj (k := some (.inr t)) (k' := none)).mp e).2
  unfold O₀
  rw [Pi.add_apply, Finsupp.add_apply, Pi.add_apply, Finsupp.add_apply, Pi.add_apply, Finsupp.add_apply, owed_at]
  simp only [tallyAt_apply, hb, false_and, if_false, Nat.add_zero]
  have hr (t' : Xfer) : recvCell c t = recvCell (peer t' d) t' ↔ t' = t ∧ d = peer t c := by
    refine (kcell_inj (a := c) (b := peer t' d) (k := some (.inr t)) (k' := some (.inr t'))).trans ⟨fun e => ?_, fun e => ?_⟩
    · have : t = t' := by simpa using e.2
      subst this
      exact ⟨rfl, (flip_iff _ _ _).mp e.1⟩
    · rw [e.1]; exact ⟨(flip_iff _ _ _).mp e.2, rfl⟩
  simp only [hr]
  rw [Finset.sum_eq_single t (fun t' _ h => if_neg fun e => h e.1) (fun h => absurd (Finset.mem_univ _) h)]
  simp only [_root_.true_and]

theorem credit_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owing_bar d c, Finset.sum_add_distrib, Finset.sum_add_distrib]
  simp only [Finset.sum_ite_eq', Finset.mem_univ, if_true]

theorem credit_recv (c : Dev nD) (t : Xfer) :
    tallyOn (recvCell c t) (launchCredit (Pipeline.owing O₀) 0 (recvCell c t)) = (tallyAt (recvCell c t) () (N t.1) : CellTallies nD τ sig Unit) := by
  unfold tallyAt; refine congrArg _ (Finsupp.ext fun u => ?_); cases u
  rw [Pipeline.launchCredit_owing, Finsupp.single_eq_same, Finset.sum_congr rfl fun d _ => owing_recv d c t]
  simp only [Finset.sum_ite_eq', Finset.mem_univ, if_true]

theorem claims_intro (c : Dev nD) : (Pipeline.launchCred O₀ c : sProp 𝕄) ⊢ claims c := by
  unfold Pipeline.launchCred
  refine (bigSep_subset (t := Finset.univ.map ⟨csem, csem_injective⟩) (Finset.subset_univ _)).trans ?_
  rw [bigSep_map, bigSep_cell]
  show iprop(cred (tallyOn (barCell c) (launchCredit (Pipeline.owing O₀) 0 (barCell c))) ∗ _
    ∗ bigSep Finset.univ fun t : Xfer => cred (tallyOn (recvCell c t) (launchCredit (Pipeline.owing O₀) 0 (recvCell c t)))) ⊢ _
  simp only [credit_bar, credit_recv]
  unfold claims
  iintro ⟨Hb, -, Hr⟩
  isplitl [Hb]; · iexact Hb
  iexact Hr

/-! ## The two ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' ledger records
  iintro ⟨-, Hlev, Hcr, -, ⟨%K, ⟨HI, HR⟩, Hm⟩⟩
  imodintro
  isplitl
  · iexists K
    isplitl [Hlev HI HR]
    · isplitl [Hlev]; · iexact Hlev
      isplitl [HI]; · iexact HI
      iexact HR
    isplitl [Hm]; · iexact Hm
    iapply (claims_intro c); iexact Hcr
  · iempintro

theorem rest_buffers (c : Dev nD) : (Pipeline.scopedRest cfg0.spec c : sProp 𝕄) = buffers (F := F) c := by
  rw [scopedRest0_eq]; unfold buffers; rw [bigSep_hop]; rfl

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ buffers c) from rfl, rest_buffers]
  iintro ⟨Hs, -, Hr⟩
  isplitl [Hs]; · iexact Hs
  iexact Hr

theorem leave (c : Dev nD) : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Done c from rfl, rest_buffers]
  unfold Done buffers
  rw [counters]
  iintro ⟨Hw, Hb, Hu, Ho⟩
  isplitl [Hu]; · iexact Hu
  isplitl [Ho]; · iexact Ho
  isplitl [Hw]; · iexact Hw
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, from any memory with zero counters, every weakly fair run of the program ends, with every
    window's array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange
-- ==== Proof.KernelIdeal.Outcome.lean ====
/-
What the run of the whole program leaves on every device: the arguments as they were, every counter at zero, and the
result array holding `result`. Generic in the float instance.
-/
module

public import proofs.«01_k».proof.Proof.KernelIdeal.Launch

@[expose] public section

noncomputable section

namespace Cert.KernelIdeal.Exchange

open Cert.KernelIdeal Cert.KernelIdeal.Gen Cert.Mesh

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays through their windows

The one point's block of every window is its whole array, so reading the block is reading the array. -/

theorem read_x (f : main_arg0.ty.Contents (Elt F)) : (win0_0.blk (0 : Fin 1)).view.read (Elt F) f = f :=
  Memref.read_access_unit_zero (Elt F) main_arg0
    (show (fun a => win0_0.index (0 : Fin 1) a * main_arg0.ty.shape.size a) = fun _ => 0 from funext fun a => by fin_cases a <;> decide)
    (fun a => by fin_cases a <;> decide) f
theorem read_w (f : main_arg1.ty.Contents (Elt F)) : (win0_1.blk (0 : Fin 1)).view.read (Elt F) f = f :=
  Memref.read_access_unit_zero (Elt F) main_arg1
    (show (fun a => win0_1.index (0 : Fin 1) a * main_arg1.ty.shape.size a) = fun _ => 0 from funext fun a => by fin_cases a <;> decide)
    (fun a => by fin_cases a <;> decide) f
theorem read_sx (f : main_arg2.ty.Contents (Elt F)) : (win0_2.blk (0 : Fin 1)).view.read (Elt F) f = f :=
  Memref.read_access_unit_zero (Elt F) main_arg2
    (show (fun a => win0_2.index (0 : Fin 1) a * main_arg2.ty.shape.size a) = fun _ => 0 from funext fun a => by fin_cases a <;> decide)
    (fun a => by fin_cases a <;> decide) f
theorem read_sw (f : main_arg3.ty.Contents (Elt F)) : (win0_3.blk (0 : Fin 1)).view.read (Elt F) f = f :=
  Memref.read_access_unit_zero (Elt F) main_arg3
    (show (fun a => win0_3.index (0 : Fin 1) a * main_arg3.ty.shape.size a) = fun _ => 0 from funext fun a => by fin_cases a <;> decide)
    (fun a => by fin_cases a <;> decide) f
theorem read_out (f : main_v1.ty.Contents (Elt F)) : (win0_4.blk (0 : Fin 1)).view.read (Elt F) f = f :=
  Memref.read_access_unit_zero (Elt F) main_v1
    (show (fun a => win0_4.index (0 : Fin 1) a * main_v1.ty.shape.size a) = fun _ => 0 from funext fun a => by fin_cases a <;> decide)
    (fun a => by fin_cases a <;> decide) f

/-- So the staged arguments are the arguments. -/
theorem xstg_eq (c : Dev nD) : xstg m ρ c = m ((c : Thread nD τ).loc main_arg0) := read_x _
theorem wstg_eq (c : Dev nD) : wstg m ρ c = m ((c : Thread nD τ).loc main_arg1) := read_w _
theorem sxstg_eq (c : Dev nD) : sxstg m ρ c = m ((c : Thread nD τ).loc main_arg2) := read_sx _
theorem swstg_eq (c : Dev nD) : swstg m ρ c = m ((c : Thread nD τ).loc main_arg3) := read_sw _

/-- What the one point leaves in the result's staging buffer is written back whole. -/
theorem final_out (c : Dev nD) : finalA m ρ c 4 = result m ρ c := by
  have h : ((cfg0.win 4).blk t0_0).view.read (Elt F) ((dats m ρ 0 c).arrAt 4 cfg0.N) = (dats m ρ 0 c).flushed 4 t0_0 := by
    rw [show cfg0.N = t0_0.val + 1 from rfl, (dats m ρ 0 c).arrAt_succ (4 : Fin 5) t0_0, flush0_4, if_pos rfl]
    exact View.read_write_univ _ _
  exact (read_out _).symm.trans h

/-! ## The run -/

theorem outcome : θ_run defs (onTc (τ := τ) (main (F := F))) ⟨m, fun _ => 0, ρ⟩ (fun r =>
    (∀ c : Dev nD, r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨(h.1 c 4).trans (final_out m ρ c),
      (h.1 c 0).trans ((dats m ρ 0 c).arrAt_in (0 : Fin 5) rfl _),
      (h.1 c 1).trans ((dats m ρ 0 c).arrAt_in (1 : Fin 5) rfl _),
      (h.1 c 2).trans ((dats m ρ 0 c).arrAt_in (2 : Fin 5) rfl _),
      (h.1 c 3).trans ((dats m ρ 0 c).arrAt_in (3 : Fin 5) rfl _)⟩, h.2⟩)
    (run_main m ρ)

/-- The run with the values dropped. -/
theorem quiescent : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => (h.1 c).2, h.2⟩) (outcome m ρ)

end Cert.KernelIdeal.Exchange
-- ==== Proof.Product.lean ====
/-
The mathematics both programs compute, over the extended reals: a product of two matrices times one scalar.
-/
module

public import Idealize.ShloMosaic.Lib.MatmulPlain
public import Idealize.ShloMosaic.Lib.ValueIdx

@[expose] public section

noncomputable section

namespace Cert.Product

open Idealize.ShloMosaic Idealize.ShloMosaic.ValueIdx

/-- The scaled product of two matrices, an element at a time. -/
def product {M K N : ℕ} (x : FVec Ideal ⟨2, ![M, K]⟩ .fp8e4m3) (w : FVec Ideal ⟨2, ![K, N]⟩ .fp8e4m3) (s : Ideal .f32) (r : Fin M) (k : Fin N) : Ideal .f32 :=
  (∑ j : Fin K, x (ix2 r j) * w (ix2 j k)) * s

/-- A matrix product into zeros, times one scalar everywhere. -/
theorem scaled_matmul {M K N : ℕ} (x : FVec Ideal ⟨2, ![M, K]⟩ .fp8e4m3) (w : FVec Ideal ⟨2, ![K, N]⟩ .fp8e4m3) (s : Ideal .f32) (i : (⟨2, ![M, N]⟩ : Shape).Idx) :
    mulf (matmul (DotDims.plain M K N) none x w (constant ⟨2, ![M, N]⟩ .f32 0x00000000#32)) (broadcast ⟨2, ![M, N]⟩ s) i = product x w s (i 0) (i 1) := by
  rw [mulf_apply]
  refine congrArg₂ (· * ·) ?_ rfl
  rw [eq_ix2 i]
  refine (Ideal.matmul_plain_apply none x w _ (i 0) (i 1)).trans ?_
  rw [constant_apply, Ideal.ofBits_zero_f32, zero_add]
  rfl

end Cert.Product
-- ==== Proof.KernelIdeal.Value.lean ====
/-
What the kernel computes, over the extended reals: element (512 * o + r, k) of device c's result is the sum over j of
x[r, j] of device o times w[j, k] of device c, times the product of the two scales.
-/
module

public import proofs.«01_k».proof.Proof.KernelIdeal.Outcome
public import proofs.«01_k».proof.Proof.Product
public import Idealize.ShloMosaic.Lib.Pipeline.Value

@[expose] public section

noncomputable section

namespace Cert.KernelIdeal.Exchange

open Cert.Product Cert.KernelIdeal Cert.KernelIdeal.Gen Cert.Mesh
open Idealize.ShloMosaic Idealize.ShloMosaic.TcCoe Idealize.ShloMosaic.ValueIdx

/-- Rows filed in a slot and taken out again are the rows. -/
theorem refiled {R : ℕ} (x : FVec Ideal ⟨2, ![R, 4096]⟩ .fp8e4m3) (h : (⟨2, ![R, 4096]⟩ : Shape).ShapeCasts ⟨2, ![R, 4096]⟩)
    (h' : (⟨2, ![R, 4096]⟩ : Shape).ShapeCasts ⟨3, ![1, R, 4096]⟩) (h'' : (⟨3, ![1, R, 4096]⟩ : Shape).ShapeCasts ⟨2, ![R, 4096]⟩) :
    shapeCast ⟨2, ![R, 4096]⟩ (shapeCast ⟨3, ![1, R, 4096]⟩ (shapeCast ⟨2, ![R, 4096]⟩ x h) h') h'' = x := by
  rw [shapeCast_shapeCast, shapeCast_self]

/-- A block of the result is a scaled product of the rows as they were before they were filed. -/
theorem mul_filed (p : Part) (s : Ideal .f32) (x : Vec Ideal (RowShape p) .fp8e4m3) (w : Vec Ideal S4096x1024 .fp8e4m3) (i : (BlockShape p).Idx) :
    mul p s (filed p x) w i = product x w s (i 0) (i 1) := by
  match p with
  | 0 => refine Eq.trans ?_ (scaled_matmul x w s i); exact congrArg (fun y => mulf (matmul (DotDims.plain 192 4096 1024) none y w _) _ i) (refiled x _ _ _)
  | 1 => refine Eq.trans ?_ (scaled_matmul x w s i); exact congrArg (fun y => mulf (matmul (DotDims.plain 160 4096 1024) none y w _) _ i) (refiled x _ _ _)
  | 2 => refine Eq.trans ?_ (scaled_matmul x w s i); exact congrArg (fun y => mulf (matmul (DotDims.plain 160 4096 1024) none y w _) _ i) (refiled x _ _ _)

variable (m : (ℓ : Loc nD τ sig) → Buf (Elt Ideal) ℓ) (ρ : Dev nD → PrngReg)

/-- The arguments of a device. -/
def argX (c : Dev nD) : Vec Ideal S512x4096 .fp8e4m3 := m ((c : Thread nD τ).loc main_arg0)
def argW (c : Dev nD) : Vec Ideal S4096x1024 .fp8e4m3 := m ((c : Thread nD τ).loc main_arg1)
def argSX (c : Dev nD) : Vec Ideal S1 .f32 := m ((c : Thread nD τ).loc main_arg2)
def argSW (c : Dev nD) : Vec Ideal S1 .f32 := m ((c : Thread nD τ).loc main_arg3)

/-- The device's copy of its weights is its weights. -/
theorem weights_eq (c : Dev nD) : weights m ρ c = argW m c := by
  unfold weights k0_pay5
  refine (shapeCast_self _ _).trans ((shapeCast_self _ _).trans (wstg_eq m ρ c))

/-- The one element of an array of one. -/
def only : S1.Idx := fun a => match a with | ⟨0, _⟩ => (0 : Fin 1)
theorem eq_only (i : S1.Idx) : i = only := funext fun a => by
  match a with
  | ⟨0, _⟩ => exact Subsingleton.elim (α := Fin 1) _ _

/-- The scale is the product of the two scales. -/
theorem scale_eq (c : Dev nD) : scale m ρ c = argSX m c only * argSW m c only := by
  unfold scale
  rw [sxstg_eq, swstg_eq]
  exact congrArg₂ (fun a b : Ideal .f32 => a * b) (congrArg (argSX m c) (eq_only _)) (congrArg (argSW m c) (eq_only _))

/-- The rows of a part are a device's rows from the part's first on. -/
theorem rowsOf_apply (p : Part) (o : Dev nD) (r : Fin (rows p)) (j : Fin 4096) (hr : offs p + r.val < 512) :
    rowsOf m ρ p o (ix2 r j) = argX m o (ix2 ⟨offs p + r.val, hr⟩ j) := by
  unfold rowsOf
  rw [xstg_eq]
  refine congrArg (argX m o) ?_
  funext a; apply Fin.ext
  match a with
  | ⟨0, _⟩ => show offs p + 1 * r.val = offs p + r.val; omega
  | ⟨1, _⟩ => show 0 + 1 * j.val = j.val; omega

/-- The device that a row of the result comes from, and which of its rows it is. -/
def owner (i : S4096x1024.Idx) : Dev nD := ⟨(i 0).val / 512, by have : (i 0).val < 4096 := (i 0).isLt; show _ < 8; omega⟩
def ownRow (i : S4096x1024.Idx) : Fin 512 := ⟨(i 0).val % 512, Nat.mod_lt _ (by decide)⟩

/-- The part of a row starts no later than the row, and the row is within it. -/
theorem partOf_bounds (r : ℕ) (hr : r < 512) : offs (partOf r) ≤ r ∧ r - offs (partOf r) < rows (partOf r) := by
  unfold partOf
  split
  · exact ⟨Nat.zero_le _, by show r - 0 < 192; omega⟩
  · split
    · exact ⟨by show 192 ≤ r; omega, by show r - 192 < 160; omega⟩
    · exact ⟨by show 352 ≤ r; omega, by show r - 352 < 160; omega⟩

/-- The result of a device at an index. -/
theorem result_apply (c : Dev nD) (i : S4096x1024.Idx) :
    result m ρ c i = product (argX m (owner i)) (argW m c) (argSX m c only * argSW m c only) (ownRow i) (i 1) := by
  have hi : (i 0).val < 4096 := (i 0).isLt
  have hk : (i 1).val < 1024 := (i 1).isLt
  obtain ⟨hle, hlt⟩ := partOf_bounds ((i 0).val % 512) (Nat.mod_lt _ (by decide))
  unfold result blockAt block xpart
  rw [mul_filed, scale_eq, weights_eq]
  unfold product
  refine congrArg (· * _) (Finset.sum_congr rfl fun j _ => congrArg₂ (· * ·) ?_ ?_)
  · refine (rowsOf_apply m ρ _ _ _ j ?_).trans ?_
    · show offs _ + ((i 0).val % 512 - offs _) % rows _ < 512
      rw [Nat.mod_eq_of_lt hlt]; omega
    · have ho : (⟨(i 0).val / 512 % 8, Nat.mod_lt _ (by decide)⟩ : Dev nD) = owner i := Fin.ext (by show (i 0).val / 512 % 8 = (i 0).val / 512; omega)
      rw [ho]
      refine congrArg (fun r => argX m (owner i) (ix2 r j)) (Fin.ext ?_)
      show offs _ + ((i 0).val % 512 - offs _) % rows _ = (i 0).val % 512
      rw [Nat.mod_eq_of_lt hlt]; omega
  · refine congrArg (fun k => argW m c (ix2 j k)) (Fin.ext ?_)
    exact Nat.mod_eq_of_lt hk

end Cert.KernelIdeal.Exchange
-- ==== Proof.ReferenceIdeal.Outcome.lean ====
/-
What the reference computes, over the extended reals: element (r, k) of its result is the sum over j of x[r, j] * w[j, k],
times the product of the two scales.
-/
module

public import proofs.«01_k».proof.Proof.Gen.ReferenceIdeal.Value
public import proofs.«01_k».proof.Proof.Product

@[expose] public section

noncomputable section

namespace Cert.ReferenceIdeal.Outcome

open Cert.Product Cert.ReferenceIdeal Cert.ReferenceIdeal.Gen Cert.ReferenceIdeal.Value
open Idealize.ShloMosaic Idealize.ShloMosaic.TcCoe Idealize.ShloMosaic.ValueIdx Idealize.SL.Sem

theorem zeros : (![0, 0] : Fin 2 → ℕ) = fun _ => 0 := funext fun a => by fin_cases a <;> rfl

/-- The one element of an array of one. -/
def only : S1.Idx := fun a => match a with | ⟨0, _⟩ => (0 : Fin 1)
theorem eq_only (i : S1.Idx) : i = only := funext fun a => by
  match a with
  | ⟨0, _⟩ => exact Subsingleton.elim (α := Fin 1) _ _

/-- What the body leaves in the result's buffer: one store of the whole of it. -/
theorem left {F : FTy → Type} [FloatOps F] (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e4m3) (w : Vec F S4096x8192 .fp8e4m3) (sx : Vec F S1 .f32) (sw : Vec F S1 .f32) :
    out0_A_4 c a0 h0 a1 h1 a2 h2 a3 h3 a4 h4 x w sx sw = k0_pay1 x w (sx only) (sw only) := by
  unfold out0_A_4
  rw [View.read_writes_junk_eq_canon]
  refine (View.canon_unit_zero (S := S4096x8192) (off := ![0, 0]) zeros inb_S4096x8192_S4096x8192_0_0 _).trans ?_
  rw [View.readAt_eq_ld, View.readAt_eq_ld, h0.read_unread, h1.read_unread, View.ld_unit_zero zeros, View.ld_unit_zero zeros]
  refine congrArg₂ (k0_pay1 x w) ?_ ?_
  · refine (congrFun (h2.read_unread sx) _).trans (congrArg sx (eq_only _))
  · refine (congrFun (h3.read_unread sw) _).trans (congrArg sw (eq_only _))

variable {F : FTy → Type} [FloatOps F]

/-! ## The arrays through their windows: the one point's block of each is the whole array. -/

theorem read_x (f : main_arg0.ty.Contents (Elt F)) : (win0_0.blk t0_0).view.read (Elt F) f = f :=
  Memref.read_access_unit_zero (Elt F) main_arg0
    (show (fun a => win0_0.index t0_0 a * main_arg0.ty.shape.size a) = fun _ => 0 from funext fun a => by fin_cases a <;> decide)
    (fun a => by fin_cases a <;> decide) f
theorem read_w (f : main_arg1.ty.Contents (Elt F)) : (win0_1.blk t0_0).view.read (Elt F) f = f :=
  Memref.read_access_unit_zero (Elt F) main_arg1
    (show (fun a => win0_1.index t0_0 a * main_arg1.ty.shape.size a) = fun _ => 0 from funext fun a => by fin_cases a <;> decide)
    (fun a => by fin_cases a <;> decide) f
theorem read_sx (f : main_arg2.ty.Contents (Elt F)) : (win0_2.blk t0_0).view.read (Elt F) f = f :=
  Memref.read_access_unit_zero (Elt F) main_arg2
    (show (fun a => win0_2.index t0_0 a * main_arg2.ty.shape.size a) = fun _ => 0 from funext fun a => by fin_cases a <;> decide)
    (fun a => by fin_cases a <;> decide) f
theorem read_sw (f : main_arg3.ty.Contents (Elt F)) : (win0_3.blk t0_0).view.read (Elt F) f = f :=
  Memref.read_access_unit_zero (Elt F) main_arg3
    (show (fun a => win0_3.index t0_0 a * main_arg3.ty.shape.size a) = fun _ => 0 from funext fun a => by fin_cases a <;> decide)
    (fun a => by fin_cases a <;> decide) f
theorem read_out (f : main_v0.ty.Contents (Elt F)) : (win0_4.blk t0_0).view.read (Elt F) f = f :=
  Memref.read_access_unit_zero (Elt F) main_v0
    (show (fun a => win0_4.index t0_0 a * main_v0.ty.shape.size a) = fun _ => 0 from funext fun a => by fin_cases a <;> decide)
    (fun a => by fin_cases a <;> decide) f

/-- The result, from the arguments as launched. -/
def whole (m : (ℓ : Loc nD τ sig) → Buf (Elt F) ℓ) (c : Dev nD) : Vec F S4096x8192 .f32 :=
  k0_pay1 (m ((c : Thread nD τ).loc main_arg0)) (m ((c : Thread nD τ).loc main_arg1))
    ((m ((c : Thread nD τ).loc main_arg2) : Vec F S1 .f32) only) ((m ((c : Thread nD τ).loc main_arg3) : Vec F S1 .f32) only)

/-- It is what the result array holds at the end. -/
theorem final_out (m : (ℓ : Loc nD τ sig) → Buf (Elt F) ℓ) (c : Dev nD) : (dats m 0 c).arrAt 4 cfg0.N = whole m c := by
  refine (read_out _).symm.trans ((blocks4 m c t0_0 (flush0_4 t0_0)).trans ((flushed4_A m c t0_0).trans ?_))
  rw [left]
  rw [show iblk m c 0 t0_0 = m ((c : Thread nD τ).loc main_arg0) from read_x _, show iblk m c 1 t0_0 = m ((c : Thread nD τ).loc main_arg1) from read_w _,
    show iblk m c 2 t0_0 = m ((c : Thread nD τ).loc main_arg2) from read_sx _, show iblk m c 3 t0_0 = m ((c : Thread nD τ).loc main_arg3) from read_sw _]
  rfl

/-- The reference's product of whole arrays, over the extended reals, at an index. -/
theorem pay_apply (x : Vec Ideal S4096x4096 .fp8e4m3) (w : Vec Ideal S4096x8192 .fp8e4m3) (sx sw : Ideal .f32) (i : S4096x8192.Idx) :
    k0_pay1 (F := Ideal) x w sx sw i = product x w (sx * sw) (i 0) (i 1) :=
  scaled_matmul x w (sx * sw) i

end Cert.ReferenceIdeal.Outcome
-- ==== Proof.Agree.lean ====
/-
The kernel's result on each device is that device's columns of the reference's result, when each device holds its rows of
the reference's first argument, its columns of the second, and the same two scales.
-/
module

public import proofs.«01_k».proof.Proof.KernelIdeal.Value
public import proofs.«01_k».proof.Proof.ReferenceIdeal.Outcome
public import Idealize.ShloMosaic.Lib.Layout

@[expose] public section

noncomputable section

namespace Cert.Agree

open Cert.Product Cert.KernelIdeal.Exchange
open Idealize.ShloMosaic Idealize.ShloMosaic.TcCoe Idealize.ShloMosaic.ValueIdx

abbrev KMem : Type := (ℓ : Loc Cert.KernelIdeal.nD Cert.KernelIdeal.τ Cert.KernelIdeal.sig) → Buf (Elt Ideal) ℓ

/-- Row `r` of device `c`'s block of rows is row `c * 512 + r` of the whole. -/
theorem rows_apply (h : Layout.Tiles ⟨2, ![512, 4096]⟩ ⟨2, ![4096, 4096]⟩ 0 8) (x : FVec Ideal ⟨2, ![4096, 4096]⟩ .fp8e4m3) (c : Fin 8) (r : Fin 512) (j : Fin 4096)
    (R : Fin 4096) (hR : R.val = c.val * 512 + r.val) : Layout.block ⟨2, ![512, 4096]⟩ ⟨2, ![4096, 4096]⟩ 0 8 c x h (ix2 r j) = x (ix2 R j) := by
  rw [Layout.block_apply]
  refine congrArg x (funext fun a => Fin.ext ?_)
  match a with
  | ⟨0, _⟩ => exact (Layout.idx_rows_val h c _).1.trans hR.symm
  | ⟨1, _⟩ => exact (Layout.idx_rows_val h c _).2

/-- Column `k` of device `c`'s block of columns is column `c * 1024 + k` of the whole. -/
theorem cols_apply (h : Layout.Tiles ⟨2, ![4096, 1024]⟩ ⟨2, ![4096, 8192]⟩ 1 8) (w : FVec Ideal ⟨2, ![4096, 8192]⟩ .fp8e4m3) (c : Fin 8) (j : Fin 4096) (k : Fin 1024)
    (K : Fin 8192) (hK : K.val = c.val * 1024 + k.val) : Layout.block ⟨2, ![4096, 1024]⟩ ⟨2, ![4096, 8192]⟩ 1 8 c w h (ix2 j k) = w (ix2 j K) := by
  rw [Layout.block_apply]
  refine congrArg w (funext fun a => Fin.ext ?_)
  match a with
  | ⟨0, _⟩ => exact (Layout.idx_cols_val h c _).1
  | ⟨1, _⟩ => exact (Layout.idx_cols_val h c _).2.trans hK.symm

/-- Device by device, the kernel's result is its block of columns of the reference's. -/
theorem result_eq (m : KMem) (ρ : Dev Cert.KernelIdeal.nD → PrngReg) (x : FVec Ideal ⟨2, ![4096, 4096]⟩ .fp8e4m3) (w : FVec Ideal ⟨2, ![4096, 8192]⟩ .fp8e4m3)
    (sx sw : Vec Ideal ⟨1, ![1]⟩ .f32)
    (hx : ∀ c, argX m c = Layout.block ⟨2, ![512, 4096]⟩ ⟨2, ![4096, 4096]⟩ 0 8 c x) (hw : ∀ c, argW m c = Layout.block ⟨2, ![4096, 1024]⟩ ⟨2, ![4096, 8192]⟩ 1 8 c w)
    (hsx : ∀ c, argSX m c = sx) (hsw : ∀ c, argSW m c = sw) (c : Dev Cert.KernelIdeal.nD) :
    result m ρ c = Layout.block ⟨2, ![4096, 1024]⟩ ⟨2, ![4096, 8192]⟩ 1 8 c
      (Cert.ReferenceIdeal.Gen.k0_pay1 x w (sx Cert.ReferenceIdeal.Outcome.only) (sw Cert.ReferenceIdeal.Outcome.only)) := by
  funext (i : Cert.KernelIdeal.S4096x1024.Idx)
  have h : Layout.Tiles ⟨2, ![4096, 1024]⟩ ⟨2, ![4096, 8192]⟩ 1 8 := by decide
  have hc := Layout.idx_cols_val h c i
  refine (result_apply m ρ c i).trans (Eq.trans ?_ (Cert.ReferenceIdeal.Outcome.pay_apply x w _ _ (h.idx c i)).symm)
  rw [hx, hw, hsx, hsw]
  unfold product
  refine congrArg₂ (· * ·) (Finset.sum_congr rfl fun j _ => congrArg₂ (· * ·) (rows_apply _ x _ _ j _ ?_) (cols_apply _ w c j _ _ hc.2)) ?_
  · refine hc.1.trans ?_
    show (i 0).val = (i 0).val / 512 * 512 + (i 0).val % 512
    omega
  · exact congrArg₂ (· * ·) (congrArg sx (Cert.ReferenceIdeal.Outcome.eq_only _)) (congrArg sw (Cert.ReferenceIdeal.Outcome.eq_only _))

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Outcome
public import proofs.«01_k».proof.Proof.Agree
public import Idealize.ShloMosaic.Adequacy
public import Idealize.ShloMosaic.Init

@[expose] public section

noncomputable section

namespace Cert.Proof

open Idealize.ShloMosaic Idealize.SL.Sem

/-- On eight devices that hold their rows of the first argument, their columns of the second and both scales, the kernel
    leaves each device its columns of what the reference computes on one. -/
theorem same : Cert.algebraic_KernelIdeal_ReferenceIdeal (hKernelIdeal := Cert.KernelIdeal.Gen.facts) (hReferenceIdeal := Cert.ReferenceIdeal.Gen.facts) := by
  intro m ρ m' ρ' _ h
  refine ⟨Cert.ReferenceIdeal.Outcome.whole m' 0, ?_, ?_⟩
  · refine (θ_run _ _ _).mono (fun r hr c => ⟨(hr.1 c).1.trans ?_, (hr.1 c).2⟩) (Cert.KernelIdeal.Exchange.outcome m ρ)
    exact Cert.Agree.result_eq m ρ _ _ _ _ (fun c => (h c).1) (fun c => (h c).2.1) (fun c => (h c).2.2.1) (fun c => (h c).2.2.2) c
  · exact (θ_run _ _ _).mono (fun r hr => ⟨(hr 0).1.trans (Cert.ReferenceIdeal.Outcome.final_out m' 0), (hr 0).2⟩) (Cert.ReferenceIdeal.Value.run_blocks m' ρ')

theorem claim : Cert.Claim := ⟨Cert.Kernel.Gen.facts, Cert.KernelIdeal.Gen.facts, Cert.ReferenceIdeal.Gen.facts,
  fun m ρ _ => Cert.Kernel.Exchange.quiescent m ρ,
  fun m ρ _ => Cert.KernelIdeal.Exchange.quiescent m ρ,
  fun m ρ _ => Cert.ReferenceIdeal.Gen.frame m ρ,
  trivial,
  same⟩

end Cert.Proof

end
